-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  IdealRules.named_const.Statement Cert.KernelIdeal.κ "mask" .f32 0xFF7FFFFF#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)) (v2 : (c : Dev Cert.KernelIdeal.nD) → Buf (Elt Ideal) ((c.tc : Thread Cert.KernelIdeal.nD Cert.KernelIdeal.τ).loc Cert.KernelIdeal.main_v60_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_v60_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)) (v3 : (c : Dev Cert.Kernel2Ideal.nD) → Buf (Elt Ideal) ((c.tc : Thread Cert.Kernel2Ideal.nD Cert.Kernel2Ideal.τ).loc Cert.Kernel2Ideal.main_v7_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_v7_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_v20) = v2 c
          ∧ r.2.mem ((c.tc : Thread Cert.Reference2Ideal.nD Cert.Reference2Ideal.τ).loc Cert.Reference2Ideal.main_v31) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v33_1)) (v1 : (c : Dev Cert.Kernel3Ideal.nD) → Buf (Elt Ideal) ((c.tc : Thread Cert.Kernel3Ideal.nD Cert.Kernel3Ideal.τ).loc Cert.Kernel3Ideal.main_v33_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v33_1) = v0 c
          ∧ r.2.mem ((c.tc : Thread Cert.Kernel3Ideal.nD Cert.Kernel3Ideal.τ).loc Cert.Kernel3Ideal.main_v33_2) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S2048x2048 : Shape := ⟨2, ![2048, 2048]⟩
abbrev S2048x128 : Shape := ⟨2, ![2048, 128]⟩
abbrev S2048x32 : Shape := ⟨2, ![2048, 32]⟩
abbrev S2048x1024 : Shape := ⟨2, ![2048, 1024]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bitsLt_bf16_f32 : FTy.bits .bf16 < FTy.bits .f32
  bcast_S_S2048x128 : S_.BroadcastsInDim S2048x128 (![] : Fin 0 → Fin S2048x128.rank)
  reducesTo_S2048x128_S_d0_1 : S2048x128.ReducesTo [0, 1] S_
  bcast_S_S2048x32 : S_.BroadcastsInDim S2048x32 (![] : Fin 0 → Fin S2048x32.rank)
  reducesTo_S2048x32_S_d0_1 : S2048x32.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S2048x32 .f32) (main_arg5 : FVec F S2048x1024 .bf16) (main_v15 : IVec S_ 1) (main_v16 : FVec F S2048x32 .f32) (main_cst_4 : FVec F S_ .f32) : IVec S_ 1 :=
  let main_v17 : FVec F S2048x32 .f32 := broadcastInDim S2048x32 ![] bcast_S_S2048x32 main_cst_4
  let main_v18 : IVec S2048x32 1 := cmpf .olt main_v16 main_v17
  let main_c_5 : IVec S_ 1 := constantI S_ 1 1#1
  let main_v19 : IVec S_ 1 := (fun x v => Host.reduce IntOp.andi x v reducesTo_S2048x32_S_d0_1 h_S_) main_v18 main_c_5
  let main_v20 : IVec S_ 1 := andi main_v15 main_v19
  let main_v21 : FVec F S2048x32 .f32 := Host.absf main_arg4
  let main_cst_6 : FVec F S_ .f32 := constant S_ .f32 0x7F800000#32
  let main_v22 : FVec F S2048x32 .f32 := broadcastInDim S2048x32 ![] bcast_S_S2048x32 main_cst_6
  let main_v23 : IVec S2048x32 1 := cmpf .olt main_v21 main_v22
  let main_c_7 : IVec S_ 1 := constantI S_ 1 1#1
  let main_v24 : IVec S_ 1 := (fun x v => Host.reduce IntOp.andi x v reducesTo_S2048x32_S_d0_1 h_S_) main_v23 main_c_7
  let main_v25 : IVec S_ 1 := andi main_v20 main_v24
  let main_v26 : FVec F S2048x1024 .f32 := (extf .f32 · bitsLt_bf16_f32) main_arg5
  let main_v27 : FVec F S2048x1024 .f32 := Host.absf main_v26
  let main_cst_8 : FVec F S_ .f32 := constant S_ .f32 0x7F800000#32
  let main_v28 : FVec F S2048x1024 .f32 := broadcastInDim S2048x1024 ![] bcast_S_S2048x1024 main_cst_8
  let main_v29 : IVec S2048x1024 1 := cmpf .olt main_v27 main_v28
  let main_c_9 : IVec S_ 1 := constantI S_ 1 1#1
  let main_v30 : IVec S_ 1 := (fun x v => Host.reduce IntOp.andi x v reducesTo_S2048x1024_S_d0_1 h_S_) main_v29 main_c_9
  let main_v31 : IVec S_ 1 := andi main_v25 main_v30
  main_v31

def fn {F : FTy → Type} [FloatOps F] (main_arg0 : FVec F S2048x2048 .f32) (main_arg1 : FVec F S2048x2048 .bf16) (main_arg2 : FVec F S2048x128 .bf16) (main_arg3 : FVec F S2048x32 .f32) (main_arg4 : FVec F S2048x32 .f32) (main_arg5 : FVec F S2048x1024 .bf16) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := (extf .f32 · bitsLt_bf16_f32) main_arg1
  let main_v5 : FVec F S2048x2048 .f32 := Host.absf main_v4
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  let main_c_1 : IVec S_ 1 := constantI S_ 1 1#1
  let main_v8 : IVec S_ 1 := (fun x v => Host.reduce IntOp.andi x v reducesTo_S2048x2048_S_d0_1 h_S_) main_v7 main_c_1
  let main_v9 : IVec S_ 1 := andi main_v3 main_v8
  let main_v10 : FVec F S2048x128 .f32 := (extf .f32 · bitsLt_bf16_f32) main_arg2
  let main_v11 : FVec F S2048x128 .f32 := Host.absf main_v10
  let main_cst_2 : FVec F S_ .f32 := constant S_ .f32 0x7F800000#32
  let main_v12 : FVec F S2048x128 .f32 := broadcastInDim S2048x128 ![] bcast_S_S2048x128 main_cst_2
  let main_v13 : IVec S2048x128 1 := cmpf .olt main_v11 main_v12
  let main_c_3 : IVec S_ 1 := constantI S_ 1 1#1
  let main_v14 : IVec S_ 1 := (fun x v => Host.reduce IntOp.andi x v reducesTo_S2048x128_S_d0_1 h_S_) main_v13 main_c_3
  let main_v15 : IVec S_ 1 := andi main_v9 main_v14
  let main_v16 : FVec F S2048x32 .f32 := Host.absf main_arg3
  let main_cst_4 : FVec F S_ .f32 := constant S_ .f32 0x7F800000#32
  fn_part1 (F := F) main_arg4 main_arg5 main_v15 main_v16 main_cst_4
-- ==== Kernel.lean ====
abbrev S2048x2048 : Shape := ⟨2, ![2048, 2048]⟩
abbrev S2048x128 : Shape := ⟨2, ![2048, 128]⟩
abbrev S2048x32 : Shape := ⟨2, ![2048, 32]⟩
abbrev S2048x1024 : Shape := ⟨2, ![2048, 1024]⟩
abbrev S2048x8x256 : Shape := ⟨3, ![2048, 8, 256]⟩
abbrev S2048x8x128 : Shape := ⟨3, ![2048, 8, 128]⟩
abbrev S2048x8x64 : Shape := ⟨3, ![2048, 8, 64]⟩
abbrev S2048x1x32 : Shape := ⟨3, ![2048, 1, 32]⟩
abbrev S2048x8x32 : Shape := ⟨3, ![2048, 8, 32]⟩
abbrev S2048x64 : Shape := ⟨2, ![2048, 64]⟩
abbrev S8x2048x2048 : Shape := ⟨3, ![8, 2048, 2048]⟩
abbrev S2048x2048x8 : Shape := ⟨3, ![2048, 2048, 8]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S8x2048 : Shape := ⟨2, ![8, 2048]⟩
abbrev S8x2048x1 : Shape := ⟨3, ![8, 2048, 1]⟩
abbrev S8x128x2048 : Shape := ⟨3, ![8, 128, 2048]⟩
abbrev S256x256 : Shape := ⟨2, ![256, 256]⟩
abbrev S2048x256 : Shape := ⟨2, ![2048, 256]⟩
abbrev S256x128 : Shape := ⟨2, ![256, 128]⟩
abbrev S1x256x1 : Shape := ⟨3, ![1, 256, 1]⟩
abbrev S256x1 : Shape := ⟨2, ![256, 1]⟩
abbrev S256 : Shape := ⟨1, ![256]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩
abbrev S256x2048 : Shape := ⟨2, ![256, 2048]⟩

abbrev nBuf : Space → Nat
  | .hbm => 95
  | .vmem => 22
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x128, .bf16⟩
  | .hbm, ⟨3, _⟩ => ⟨S2048x32, .f32⟩
  | .hbm, ⟨4, _⟩ => ⟨S2048x32, .f32⟩
  | .hbm, ⟨5, _⟩ => ⟨S2048x1024, .bf16⟩
  | .hbm, ⟨6, _⟩ => ⟨S2048x2048, .f32⟩
  | .hbm, ⟨7, _⟩ => ⟨S2048x128, .f32⟩
  | .hbm, ⟨8, _⟩ => ⟨S2048x8x256, .f32⟩
  | .hbm, ⟨9, _⟩ => ⟨S2048x8x128, .f32⟩
  | .hbm, ⟨10, _⟩ => ⟨S2048x8x64, .f32⟩
  | .hbm, ⟨11, _⟩ => ⟨S2048x1x32, .f32⟩
  | .hbm, ⟨12, _⟩ => ⟨S2048x1x32, .f32⟩
  | .hbm, ⟨13, _⟩ => ⟨S2048x8x32, .f32⟩
  | .hbm, ⟨14, _⟩ => ⟨S2048x8x32, .f32⟩
  | .hbm, ⟨15, _⟩ => ⟨S2048x8x32, .f32⟩
  | .hbm, ⟨16, _⟩ => ⟨S2048x8x32, .f32⟩
  | .hbm, ⟨17, _⟩ => ⟨S2048x8x32, .f32⟩
  | .hbm, ⟨18, _⟩ => ⟨S2048x8x32, .f32⟩
  | .hbm, ⟨19, _⟩ => ⟨S2048x8x32, .f32⟩
  | .hbm, ⟨20, _⟩ => ⟨S2048x8x32, .f32⟩
  | .hbm, ⟨21, _⟩ => ⟨S2048x8x32, .f32⟩
  | .hbm, ⟨22, _⟩ => ⟨S2048x8x32, .f32⟩
  | .hbm, ⟨23, _⟩ => ⟨S2048x8x32, .f32⟩
  | .hbm, ⟨24, _⟩ => ⟨S2048x8x32, .f32⟩
  | .hbm, ⟨25, _⟩ => ⟨S2048x8x64, .f32⟩
  | .hbm, ⟨26, _⟩ => ⟨S2048x8x256, .f32⟩
  | .hbm, ⟨27, _⟩ => ⟨S2048x8x128, .f32⟩
  | .hbm, ⟨28, _⟩ => ⟨S2048x64, .f32⟩
  | .hbm, ⟨29, _⟩ => ⟨S8x2048x2048, .f32⟩
  | .hbm, ⟨30, _⟩ => ⟨S2048x2048x8, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S2048, .i32⟩
  | .hbm, ⟨37, _⟩ => ⟨S_, .i32⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S2048, .i32⟩
  | .hbm, ⟨42, _⟩ => ⟨S_, .i32⟩
  | .hbm, ⟨43, _⟩ => ⟨S2048, .i32⟩
  | .hbm, ⟨44, _⟩ => ⟨S2048, .i1⟩
  | .hbm, ⟨45, _⟩ => ⟨S2048, .i32⟩
  | .hbm, ⟨46, _⟩ => ⟨S2048, .i32⟩
  | .hbm, ⟨47, _⟩ => ⟨S_, .i32⟩
  | .hbm, ⟨48, _⟩ => ⟨S2048, .i32⟩
  | .hbm, ⟨49, _⟩ => ⟨S2048, .i1⟩
  | .hbm, ⟨50, _⟩ => ⟨S2048, .i1⟩
  | .hbm, ⟨51, _⟩ => ⟨S_, .i32⟩
  | .hbm, ⟨52, _⟩ => ⟨S2048, .i32⟩
  | .hbm, ⟨53, _⟩ => ⟨S2048, .i32⟩
  | .hbm, ⟨54, _⟩ => ⟨S2048, .i32⟩
  | .hbm, ⟨55, _⟩ => ⟨S1x2048, .i32⟩
  | .hbm, ⟨56, _⟩ => ⟨S2048x1, .i32⟩
  | .hbm, ⟨57, _⟩ => ⟨S2048x2048, .i32⟩
  | .hbm, ⟨58, _⟩ => ⟨S2048x2048, .i32⟩
  | .hbm, ⟨59, _⟩ => ⟨S2048x2048, .i1⟩
  | .hbm, ⟨60, _⟩ => ⟨S_, .f32⟩
  | .hbm, ⟨61, _⟩ => ⟨S_, .f32⟩
  | .hbm, ⟨62, _⟩ => ⟨S8x2048x2048, .i1⟩
  | .hbm, ⟨63, _⟩ => ⟨S8x2048x2048, .f32⟩
  | .hbm, ⟨64, _⟩ => ⟨S8x2048x2048, .f32⟩
  | .hbm, ⟨65, _⟩ => ⟨S_, .f32⟩
  | .hbm, ⟨66, _⟩ => ⟨S8x2048, .f32⟩
  | .hbm, ⟨67, _⟩ => ⟨S8x2048x1, .f32⟩
  | .hbm, ⟨68, _⟩ => ⟨S8x2048x2048, .f32⟩
  | .hbm, ⟨69, _⟩ => ⟨S8x2048x2048, .f32⟩
  | .hbm, ⟨70, _⟩ => ⟨S8x2048x2048, .f32⟩
  | .hbm, ⟨71, _⟩ => ⟨S_, .f32⟩
  | .hbm, ⟨72, _⟩ => ⟨S8x2048, .f32⟩
  | .hbm, ⟨73, _⟩ => ⟨S8x2048x1, .f32⟩
  | .hbm, ⟨74, _⟩ => ⟨S8x2048x1, .f32⟩
  | .hbm, ⟨75, _⟩ => ⟨S8x2048x1, .f32⟩
  | .hbm, ⟨76, _⟩ => ⟨S2048x8x256, .f32⟩
  | .hbm, ⟨77, _⟩ => ⟨S2048x8x128, .f32⟩
  | .hbm, ⟨78, _⟩ => ⟨S8x2048x2048, .f32⟩
  | .hbm, ⟨79, _⟩ => ⟨S8x2048x2048, .f32⟩
  | .hbm, ⟨80, _⟩ => ⟨S8x128x2048, .f32⟩
  | .hbm, ⟨81, _⟩ => ⟨S2048x8x128, .f32⟩
  | .hbm, ⟨82, _⟩ => ⟨S2048x1024, .f32⟩
  | .hbm, ⟨83, _⟩ => ⟨S2048x1024, .bf16⟩
  | .hbm, ⟨84, _⟩ => ⟨S_, .f32⟩
  | .hbm, ⟨85, _⟩ => ⟨S2048x32, .f32⟩
  | .hbm, ⟨86, _⟩ => ⟨S_, .f32⟩
  | .hbm, ⟨87, _⟩ => ⟨S2048x64, .f32⟩
  | .hbm, ⟨88, _⟩ => ⟨S2048x128, .f32⟩
  | .hbm, ⟨89, _⟩ => ⟨S2048x32, .f32⟩
  | .hbm, ⟨90, _⟩ => ⟨S2048x128, .f32⟩
  | .hbm, ⟨91, _⟩ => ⟨S2048x128, .f32⟩
  | .hbm, ⟨92, _⟩ => ⟨S2048x2048, .bf16⟩
  | .hbm, ⟨93, _⟩ => ⟨S2048x2048, .f32⟩
  | .hbm, ⟨94, _⟩ => ⟨S2048x128, .f32⟩
  | .local _ .vmem, ⟨0, _⟩ => ⟨S256x256, .f32⟩
  | .local _ .vmem, ⟨1, _⟩ => ⟨S256x256, .f32⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S256x128, .bf16⟩
  | .local _ .vmem, ⟨6, _⟩ => ⟨S256x128, .bf16⟩
  | .local _ .vmem, ⟨7, _⟩ => ⟨S1x256x1, .f32⟩
  | .local _ .vmem, ⟨8, _⟩ => ⟨S1x256x1, .f32⟩
  | .local _ .vmem, ⟨9, _⟩ => ⟨S256x128, .bf16⟩
  | .local _ .vmem, ⟨10, _⟩ => ⟨S256x128, .bf16⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x256, .bf16⟩
  | .local _ .vmem, ⟨18, _⟩ => ⟨S256x256, .bf16⟩
  | .local _ .vmem, ⟨19, _⟩ => ⟨S2048x256, .f32⟩
  | .local _ .vmem, ⟨20, _⟩ => ⟨S2048x256, .f32⟩
  | .local _ .vmem, ⟨21, _⟩ => ⟨S2048x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_0 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v36 : Ref sig .tc := ⟨.hbm, 64, rfl⟩
abbrev main_cst_1 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_2 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_3 : Ref sig .tc := ⟨.hbm, 84, rfl⟩
abbrev main_v54 : Ref sig .tc := ⟨.hbm, 85, rfl⟩
abbrev main_cst_4 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60_0 : Ref sig .tc := ⟨.hbm, 92, rfl⟩
abbrev main_v60_1 : Ref sig .tc := ⟨.hbm, 93, rfl⟩
abbrev main_v60_2 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c0_i32_4 : BitVec 32 := 0#32
  let v8 : BitVec 1 := Scalar.cmpi .eq arg1 c0_i32_4
  let v9 : BitVec 32 := Scalar.extui v8
  let c0_i32_5 : BitVec 32 := 0#32
  let v10 : BitVec 1 := Scalar.cmpi .ne v9 c0_i32_5
  v10

def k0_cond4 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def k0_cond5 (i : grid0.Coords) : BitVec 1 :=
  let arg1 : BitVec 32 := BitVec.ofNat 32 (i 1).val
  let c2_i32 : BitVec 32 := 2#32
  let v14 : BitVec 1 := Scalar.cmpi .eq arg1 c2_i32
  let v15 : BitVec 32 := Scalar.extui v14
  let c0_i32_7 : BitVec 32 := 0#32
  let v16 : BitVec 1 := Scalar.cmpi .ne v15 c0_i32_7
  v16

def k0_cond6 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_8 : BitVec 32 := 0#32
  let v19 : BitVec 1 := Scalar.cmpi .ne v18 c0_i32_8
  v19

def k0_cond7 (i : grid0.Coords) : BitVec 1 :=
  let arg1 : BitVec 32 := BitVec.ofNat 32 (i 1).val
  let c4_i32 : BitVec 32 := 4#32
  let v20 : BitVec 1 := Scalar.cmpi .eq arg1 c4_i32
  let v21 : BitVec 32 := Scalar.extui v20
  let c0_i32_9 : BitVec 32 := 0#32
  let v22 : BitVec 1 := Scalar.cmpi .ne v21 c0_i32_9
  v22

def k0_cond8 (i : grid0.Coords) : BitVec 1 :=
  let arg1 : BitVec 32 := BitVec.ofNat 32 (i 1).val
  let c5_i32 : BitVec 32 := 5#32
  let v23 : BitVec 1 := Scalar.cmpi .eq arg1 c5_i32
  let v24 : BitVec 32 := Scalar.extui v23
  let c0_i32_10 : BitVec 32 := 0#32
  let v25 : BitVec 1 := Scalar.cmpi .ne v24 c0_i32_10
  v25

def k0_cond9 (i : grid0.Coords) : BitVec 1 :=
  let arg1 : BitVec 32 := BitVec.ofNat 32 (i 1).val
  let c6_i32 : BitVec 32 := 6#32
  let v26 : BitVec 1 := Scalar.cmpi .eq arg1 c6_i32
  let v27 : BitVec 32 := Scalar.extui v26
  let c0_i32_11 : BitVec 32 := 0#32
  let v28 : BitVec 1 := Scalar.cmpi .ne v27 c0_i32_11
  v28

def k0_cond10 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_12 : BitVec 32 := 0#32
  let v31 : BitVec 1 := Scalar.cmpi .ne v30 c0_i32_12
  v31

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S2048x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S2048x2048 : Shape := ⟨2, ![2048, 2048]⟩
abbrev S2048x128 : Shape := ⟨2, ![2048, 128]⟩
abbrev S2048x32 : Shape := ⟨2, ![2048, 32]⟩
abbrev S2048x1024 : Shape := ⟨2, ![2048, 1024]⟩
abbrev S2048x8x256 : Shape := ⟨3, ![2048, 8, 256]⟩
abbrev S2048x8x128 : Shape := ⟨3, ![2048, 8, 128]⟩
abbrev S2048x8x64 : Shape := ⟨3, ![2048, 8, 64]⟩
abbrev S2048x1x32 : Shape := ⟨3, ![2048, 1, 32]⟩
abbrev S2048x8x32 : Shape := ⟨3, ![2048, 8, 32]⟩
abbrev S2048x64 : Shape := ⟨2, ![2048, 64]⟩
abbrev S8x2048x2048 : Shape := ⟨3, ![8, 2048, 2048]⟩
abbrev S2048x2048x8 : Shape := ⟨3, ![2048, 2048, 8]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S8x2048 : Shape := ⟨2, ![8, 2048]⟩
abbrev S8x2048x1 : Shape := ⟨3, ![8, 2048, 1]⟩
abbrev S8x128x2048 : Shape := ⟨3, ![8, 128, 2048]⟩
abbrev S8x2048x128 : Shape := ⟨3, ![8, 2048, 128]⟩

abbrev nBuf : Space → Nat
  | .hbm => 173
  | .vmem => 0
  | .smem => 0
  | _ => 0

abbrev hbmTy0_0 (i : Nat) : BufTy := match i % 128 with
  | 0 => ⟨S2048x2048, .f32⟩
  | 1 => ⟨S2048x2048, .bf16⟩
  | 2 => ⟨S2048x128, .bf16⟩
  | 3 => ⟨S2048x32, .f32⟩
  | 4 => ⟨S2048x32, .f32⟩
  | 5 => ⟨S2048x1024, .bf16⟩
  | 6 => ⟨S2048x2048, .f32⟩
  | 7 => ⟨S2048x128, .f32⟩
  | 8 => ⟨S2048x1024, .f32⟩
  | 9 => ⟨S2048x8x256, .f32⟩
  | 10 => ⟨S2048x8x128, .f32⟩
  | 11 => ⟨S2048x8x256, .f32⟩
  | 12 => ⟨S2048x8x128, .f32⟩
  | 13 => ⟨S2048x8x64, .f32⟩
  | 14 => ⟨S2048x1x32, .f32⟩
  | 15 => ⟨S2048x1x32, .f32⟩
  | 16 => ⟨S2048x8x32, .f32⟩
  | 17 => ⟨S2048x8x32, .f32⟩
  | 18 => ⟨S2048x8x32, .f32⟩
  | 19 => ⟨S2048x8x32, .f32⟩
  | 20 => ⟨S2048x8x32, .f32⟩
  | 21 => ⟨S2048x8x32, .f32⟩
  | 22 => ⟨S2048x8x32, .f32⟩
  | 23 => ⟨S2048x8x32, .f32⟩
  | 24 => ⟨S2048x8x32, .f32⟩
  | 25 => ⟨S2048x8x32, .f32⟩
  | 26 => ⟨S2048x8x32, .f32⟩
  | 27 => ⟨S2048x8x32, .f32⟩
  | 28 => ⟨S2048x8x64, .f32⟩
  | 29 => ⟨S2048x8x256, .f32⟩
  | 30 => ⟨S2048x8x128, .f32⟩
  | 31 => ⟨S2048x64, .f32⟩
  | 32 => ⟨S8x2048x2048, .f32⟩
  | 33 => ⟨S2048x2048x8, .f32⟩
  | 34 => ⟨S8x2048x2048, .f32⟩
  | 35 => ⟨S8x2048x2048, .f32⟩
  | 36 => ⟨S_, .f32⟩
  | 37 => ⟨S8x2048x2048, .f32⟩
  | 38 => ⟨S8x2048x2048, .f32⟩
  | 39 => ⟨S2048, .i32⟩
  | 40 => ⟨S_, .i32⟩
  | 41 => ⟨S_, .i32⟩
  | 42 => ⟨S2048, .i32⟩
  | 43 => ⟨S2048, .i32⟩
  | 44 => ⟨S2048, .i32⟩
  | 45 => ⟨S_, .i32⟩
  | 46 => ⟨S2048, .i32⟩
  | 47 => ⟨S2048, .i1⟩
  | 48 => ⟨S2048, .i32⟩
  | 49 => ⟨S2048, .i32⟩
  | 50 => ⟨S_, .i32⟩
  | 51 => ⟨S2048, .i32⟩
  | 52 => ⟨S2048, .i1⟩
  | 53 => ⟨S2048, .i1⟩
  | 54 => ⟨S_, .i32⟩
  | 55 => ⟨S2048, .i32⟩
  | 56 => ⟨S2048, .i32⟩
  | 57 => ⟨S2048, .i32⟩
  | 58 => ⟨S1x2048, .i32⟩
  | 59 => ⟨S2048x1, .i32⟩
  | 60 => ⟨S2048x2048, .i32⟩
  | 61 => ⟨S2048x2048, .i32⟩
  | 62 => ⟨S2048x2048, .i1⟩
  | 63 => ⟨S_, .f32⟩
  | 64 => ⟨S_, .f32⟩
  | 65 => ⟨S8x2048x2048, .i1⟩
  | 66 => ⟨S8x2048x2048, .f32⟩
  | 67 => ⟨S8x2048x2048, .f32⟩
  | 68 => ⟨S_, .f32⟩
  | 69 => ⟨S8x2048x2048, .f32⟩
  | 70 => ⟨S_, .f32⟩
  | 71 => ⟨S8x2048, .f32⟩
  | 72 => ⟨S8x2048x1, .f32⟩
  | 73 => ⟨S8x2048x2048, .f32⟩
  | 74 => ⟨S8x2048x2048, .i1⟩
  | 75 => ⟨S8x2048x2048, .f32⟩
  | 76 => ⟨S_, .f32⟩
  | 77 => ⟨S8x2048, .f32⟩
  | 78 => ⟨S_, .f32⟩
  | 79 => ⟨S8x2048, .f32⟩
  | 80 => ⟨S8x2048, .f32⟩
  | 81 => ⟨S_, .f32⟩
  | 82 => ⟨S8x2048, .f32⟩
  | 83 => ⟨S8x2048, .i1⟩
  | 84 => ⟨S_, .f32⟩
  | 85 => ⟨S8x2048, .f32⟩
  | 86 => ⟨S8x2048, .i1⟩
  | 87 => ⟨S_, .f32⟩
  | 88 => ⟨S8x2048, .f32⟩
  | 89 => ⟨S_, .f32⟩
  | 90 => ⟨S8x2048, .f32⟩
  | 91 => ⟨S_, .f32⟩
  | 92 => ⟨S8x2048, .f32⟩
  | 93 => ⟨S8x2048, .f32⟩
  | 94 => ⟨S8x2048, .f32⟩
  | 95 => ⟨S8x2048x1, .f32⟩
  | 96 => ⟨S8x2048x2048, .f32⟩
  | 97 => ⟨S8x2048x2048, .f32⟩
  | 98 => ⟨S8x2048x2048, .f32⟩
  | 99 => ⟨S_, .f32⟩
  | 100 => ⟨S8x2048, .f32⟩
  | 101 => ⟨S8x2048x1, .f32⟩
  | 102 => ⟨S8x2048x2048, .f32⟩
  | 103 => ⟨S8x2048x2048, .f32⟩
  | 104 => ⟨S8x2048x1, .f32⟩
  | 105 => ⟨S_, .f32⟩
  | 106 => ⟨S8x2048x1, .f32⟩
  | 107 => ⟨S8x2048x1, .f32⟩
  | 108 => ⟨S8x128x2048, .f32⟩
  | 109 => ⟨S2048x8x128, .f32⟩
  | 110 => ⟨S2048x1024, .f32⟩
  | 111 => ⟨S2048x8x128, .f32⟩
  | 112 => ⟨S8x128x2048, .f32⟩
  | 113 => ⟨S8x2048x2048, .f32⟩
  | 114 => ⟨S8x128x2048, .f32⟩
  | 115 => ⟨S2048x8x128, .f32⟩
  | 116 => ⟨S8x2048x2048, .f32⟩
  | 117 => ⟨S8x2048x2048, .f32⟩
  | 118 => ⟨S8x2048x2048, .f32⟩
  | 119 => ⟨S_, .f32⟩
  | 120 => ⟨S8x2048, .f32⟩
  | 121 => ⟨S8x2048x1, .f32⟩
  | 122 => ⟨S8x2048x1, .f32⟩
  | 123 => ⟨S8x2048x2048, .f32⟩
  | 124 => ⟨S8x2048x2048, .f32⟩
  | 125 => ⟨S_, .f32⟩
  | 126 => ⟨S8x2048, .f32⟩
  | 127 => ⟨S8x2048x2048, .f32⟩
  | _ => ⟨S2048x2048, .f32⟩

abbrev hbmTy0_1 (i : Nat) : BufTy := match i % 128 with
  | 0 => ⟨S8x2048x2048, .f32⟩
  | 1 => ⟨S8x2048x2048, .f32⟩
  | 2 => ⟨S_, .f32⟩
  | 3 => ⟨S8x2048x2048, .f32⟩
  | 4 => ⟨S8x2048x2048, .f32⟩
  | 5 => ⟨S_, .f32⟩
  | 6 => ⟨S8x2048x2048, .f32⟩
  | 7 => ⟨S8x2048x2048, .f32⟩
  | 8 => ⟨S2048x2048x8, .f32⟩
  | 9 => ⟨S2048x8x64, .f32⟩
  | 10 => ⟨S2048x64, .f32⟩
  | 11 => ⟨S8x2048x128, .f32⟩
  | 12 => ⟨S2048x8x128, .f32⟩
  | 13 => ⟨S8x2048x128, .f32⟩
  | 14 => ⟨S2048x8x128, .f32⟩
  | 15 => ⟨S_, .f32⟩
  | 16 => ⟨S2048x128, .f32⟩
  | 17 => ⟨S_, .f32⟩
  | 18 => ⟨S2048x8x256, .f32⟩
  | 19 => ⟨S2048x2048, .f32⟩
  | 20 => ⟨S2048x8x32, .f32⟩
  | 21 => ⟨S2048x8x32, .f32⟩
  | 22 => ⟨S2048x8x32, .f32⟩
  | 23 => ⟨S2048x8x32, .f32⟩
  | 24 => ⟨S2048x8x32, .f32⟩
  | 25 => ⟨S2048x8x32, .f32⟩
  | 26 => ⟨S2048x8x32, .f32⟩
  | 27 => ⟨S2048x8x32, .f32⟩
  | 28 => ⟨S2048x8x32, .f32⟩
  | 29 => ⟨S2048x8x32, .f32⟩
  | 30 => ⟨S2048x8x32, .f32⟩
  | 31 => ⟨S2048x8x32, .f32⟩
  | 32 => ⟨S2048x8x32, .f32⟩
  | 33 => ⟨S2048x8x64, .f32⟩
  | 34 => ⟨S_, .f32⟩
  | 35 => ⟨S2048x8x256, .f32⟩
  | 36 => ⟨S_, .f32⟩
  | 37 => ⟨S2048x8x256, .f32⟩
  | 38 => ⟨S2048x8x256, .f32⟩
  | 39 => ⟨S2048x2048, .f32⟩
  | 40 => ⟨S_, .f32⟩
  | 41 => ⟨S2048x8x256, .f32⟩
  | 42 => ⟨S2048x2048, .f32⟩
  | 43 => ⟨S2048x2048, .f32⟩
  | 44 => ⟨S2048x2048, .bf16⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_c : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_0 : Ref sig .tc := ⟨.hbm, 54, rfl⟩
abbrev main_call0_v12 : Ref sig .tc := ⟨.hbm, 55, rfl⟩
abbrev main_call0_v13 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_0 : Ref sig .tc := ⟨.hbm, 63, rfl⟩
abbrev main_call1_v0 : Ref sig .tc := ⟨.hbm, 64, rfl⟩
abbrev main_v39_1 : Ref sig .tc := ⟨.hbm, 65, rfl⟩
abbrev main_call1_v2 : Ref sig .tc := ⟨.hbm, 66, rfl⟩
abbrev main_v39_0 : Ref sig .tc := ⟨.hbm, 67, rfl⟩
abbrev main_call1_cst : Ref sig .tc := ⟨.hbm, 68, rfl⟩
abbrev main_v39_2 : Ref sig .tc := ⟨.hbm, 69, rfl⟩
abbrev main_cst_1 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_2 : Ref sig .tc := ⟨.hbm, 76, rfl⟩
abbrev main_v45 : Ref sig .tc := ⟨.hbm, 77, rfl⟩
abbrev main_cst_3 : Ref sig .tc := ⟨.hbm, 78, rfl⟩
abbrev main_v46 : Ref sig .tc := ⟨.hbm, 79, rfl⟩
abbrev main_v47 : Ref sig .tc := ⟨.hbm, 80, rfl⟩
abbrev main_cst_4 : Ref sig .tc := ⟨.hbm, 81, rfl⟩
abbrev main_v48 : Ref sig .tc := ⟨.hbm, 82, rfl⟩
abbrev main_v49 : Ref sig .tc := ⟨.hbm, 83, rfl⟩
abbrev main_cst_5 : Ref sig .tc := ⟨.hbm, 84, rfl⟩
abbrev main_v50 : Ref sig .tc := ⟨.hbm, 85, rfl⟩
abbrev main_v51 : Ref sig .tc := ⟨.hbm, 86, rfl⟩
abbrev main_cst_6 : Ref sig .tc := ⟨.hbm, 87, rfl⟩
abbrev main_v52 : Ref sig .tc := ⟨.hbm, 88, rfl⟩
abbrev main_cst_7 : Ref sig .tc := ⟨.hbm, 89, rfl⟩
abbrev main_v53 : Ref sig .tc := ⟨.hbm, 90, rfl⟩
abbrev main_cst_8 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_9 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_10 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_11 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_12 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_call2_cst : Ref sig .tc := ⟨.hbm, 130, rfl⟩
abbrev main_call2_v0 : Ref sig .tc := ⟨.hbm, 131, rfl⟩
abbrev main_v88 : Ref sig .tc := ⟨.hbm, 132, rfl⟩
abbrev main_cst_13 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_14 : Ref sig .tc := ⟨.hbm, 143, rfl⟩
abbrev main_v98 : Ref sig .tc := ⟨.hbm, 144, rfl⟩
abbrev main_cst_15 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_16 : Ref sig .tc := ⟨.hbm, 162, rfl⟩
abbrev main_v115 : Ref sig .tc := ⟨.hbm, 163, rfl⟩
abbrev main_cst_17 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_18 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩

abbrev nD : Nat := 1
abbrev τ : Topo := Topo.v7x

variable {F : FTy → Type} [FloatOps F]
-- ==== Kernel2.lean ====
abbrev S2048x1024 : Shape := ⟨2, ![2048, 1024]⟩
abbrev S1024x4096 : Shape := ⟨2, ![1024, 4096]⟩
abbrev S4096x1024 : Shape := ⟨2, ![4096, 1024]⟩
abbrev S1024 : Shape := ⟨1, ![1024]⟩
abbrev S1024x4x1024 : Shape := ⟨3, ![1024, 4, 1024]⟩
abbrev S4x1024x1024 : Shape := ⟨3, ![4, 1024, 1024]⟩
abbrev S1x1024 : Shape := ⟨2, ![1, 1024]⟩
abbrev S2048x1 : Shape := ⟨2, ![2048, 1]⟩
abbrev S2048x4096 : Shape := ⟨2, ![2048, 4096]⟩
abbrev S256x1024 : Shape := ⟨2, ![256, 1024]⟩
abbrev S256x1 : Shape := ⟨2, ![256, 1]⟩
abbrev S256x4096 : Shape := ⟨2, ![256, 4096]⟩
abbrev S1x1024x1024 : Shape := ⟨3, ![1, 1024, 1024]⟩
abbrev S1024x1024 : Shape := ⟨2, ![1024, 1024]⟩
abbrev S256 : Shape := ⟨1, ![256]⟩

abbrev nBuf : Space → Nat
  | .hbm => 16
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S4096x1024, .bf16⟩
  | .hbm, ⟨9, _⟩ => ⟨S4x1024x1024, .bf16⟩
  | .hbm, ⟨10, _⟩ => ⟨S1x1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S2048x1, .f32⟩
  | .hbm, ⟨15, _⟩ => ⟨S2048x4096, .bf16⟩
  | .local _ .vmem, ⟨0, _⟩ => ⟨S256x1024, .f32⟩
  | .local _ .vmem, ⟨1, _⟩ => ⟨S256x1024, .f32⟩
  | .local _ .vmem, ⟨2, _⟩ => ⟨S4x1024x1024, .bf16⟩
  | .local _ .vmem, ⟨3, _⟩ => ⟨S4x1024x1024, .bf16⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1, .f32⟩
  | .local _ .vmem, ⟨11, _⟩ => ⟨S256x1, .f32⟩
  | .local _ .vmem, ⟨12, _⟩ => ⟨S256x4096, .bf16⟩
  | .local _ .vmem, ⟨13, _⟩ => ⟨S256x4096, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S2048x1024 : Shape := ⟨2, ![2048, 1024]⟩
abbrev S1024x4096 : Shape := ⟨2, ![1024, 4096]⟩
abbrev S4096x1024 : Shape := ⟨2, ![4096, 1024]⟩
abbrev S1024 : Shape := ⟨1, ![1024]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x4096, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel3.lean ====
abbrev S2048x1024 : Shape := ⟨2, ![2048, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S1024x4x1024 : Shape := ⟨3, ![1024, 4, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S512x1 : Shape := ⟨2, ![512, 1]⟩
abbrev S1024x1024 : Shape := ⟨2, ![1024, 1024]⟩
abbrev S512 : Shape := ⟨1, ![512]⟩

abbrev nBuf : Space → Nat
  | .hbm => 51
  | .vmem => 26
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x4096, .f32⟩
  | .hbm, ⟨36, _⟩ => ⟨S_, .f32⟩
  | .hbm, ⟨37, _⟩ => ⟨S2048x4096, .f32⟩
  | .hbm, ⟨38, _⟩ => ⟨S2048x4096, .f32⟩
  | .hbm, ⟨39, _⟩ => ⟨S2048x4096, .bf16⟩
  | .hbm, ⟨40, _⟩ => ⟨S1024x4096, .bf16⟩
  | .hbm, ⟨41, _⟩ => ⟨S1024x4x1024, .bf16⟩
  | .hbm, ⟨42, _⟩ => ⟨S4x1024x1024, .bf16⟩
  | .hbm, ⟨43, _⟩ => ⟨S4096x1024, .bf16⟩
  | .hbm, ⟨44, _⟩ => ⟨S4x1024x1024, .bf16⟩
  | .hbm, ⟨45, _⟩ => ⟨S1x1024, .f32⟩
  | .hbm, ⟨46, _⟩ => ⟨S2048x1024, .f32⟩
  | .hbm, ⟨47, _⟩ => ⟨S4x1024x1024, .bf16⟩
  | .hbm, ⟨48, _⟩ => ⟨S4x1024x1024, .bf16⟩
  | .hbm, ⟨49, _⟩ => ⟨S1x1024, .f32⟩
  | .hbm, ⟨50, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x1024, .f32⟩
  | .local _ .vmem, ⟨22, _⟩ => ⟨S1x1024, .f32⟩
  | .local _ .vmem, ⟨23, _⟩ => ⟨S1024x1024, .f32⟩
  | .local _ .vmem, ⟨24, _⟩ => ⟨S1024x1024, .f32⟩
  | .local _ .vmem, ⟨25, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_cst : Ref sig .tc := ⟨.hbm, 36, rfl⟩
abbrev main_call0_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33_0 : Ref sig .tc := ⟨.hbm, 46, rfl⟩
abbrev main_v33_1 : Ref sig .tc := ⟨.hbm, 47, rfl⟩
abbrev main_v33_2 : Ref sig .tc := ⟨.hbm, 48, rfl⟩
abbrev main_v33_3 : Ref sig .tc := ⟨.hbm, 49, rfl⟩
abbrev main_v33_4 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond2 (i : grid0.Coords) : BitVec 1 :=
  let arg0 : BitVec 32 := BitVec.ofNat 32 (i 0).val
  let c0_i32_2 : BitVec 32 := 0#32
  let v6 : BitVec 1 := Scalar.cmpi .eq arg0 c0_i32_2
  let v7 : BitVec 32 := Scalar.extui v6
  let c0_i32_3 : BitVec 32 := 0#32
  let v8 : BitVec 1 := Scalar.cmpi .ne v7 c0_i32_3
  v8

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v59 : Index := Scalar.indexCast v1
  let c0_35 : Index := 0#32
  ![v59.toNat, 0]
def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v31 : Index := Scalar.indexCast v1
  let c0_17 : Index := 0#32
  ![v31.toNat, 0]
def k0_cond5 (i : grid0.Coords) : BitVec 1 :=
  let arg0 : BitVec 32 := BitVec.ofNat 32 (i 0).val
  let c3_i32_32 : BitVec 32 := 3#32
  let v54 : BitVec 1 := Scalar.cmpi .eq arg0 c3_i32_32
  let v55 : BitVec 32 := Scalar.extui v54
  let c0_i32_33 : BitVec 32 := 0#32
  let v56 : BitVec 1 := Scalar.cmpi .ne v55 c0_i32_33
  v56

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v57 : Index := Scalar.indexCast v1
  let c0_34 : Index := 0#32
  ![v57.toNat, 0]
def k0_cond4 (i : grid0.Coords) : BitVec 1 :=
  let arg1 : BitVec 32 := BitVec.ofNat 32 (i 1).val
  let c3_i32 : BitVec 32 := 3#32
  let v51 : BitVec 1 := Scalar.cmpi .eq arg1 c3_i32
  let v52 : BitVec 32 := Scalar.extui v51
  let c0_i32_31 : BitVec 32 := 0#32
  let v53 : BitVec 1 := Scalar.cmpi .ne v52 c0_i32_31
  v53

def k0_cond3 (i : grid0.Coords) : BitVec 1 :=
  let arg0 : BitVec 32 := BitVec.ofNat 32 (i 0).val
  let c0_i32_4 : BitVec 32 := 0#32
  let v9 : BitVec 1 := Scalar.cmpi .eq arg0 c0_i32_4
  let arg1 : BitVec 32 := BitVec.ofNat 32 (i 1).val
  let c0_i32_5 : BitVec 32 := 0#32
  let v10 : BitVec 1 := Scalar.cmpi .eq arg1 c0_i32_5
  let v11 : BitVec 1 := Scalar.andi v9 v10
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference3Ideal.lean ====
abbrev S2048x1024 : Shape := ⟨2, ![2048, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S1024x4x1024 : Shape := ⟨3, ![1024, 4, 1024]⟩
abbrev S4x1024x1024 : Shape := ⟨3, ![4, 1024, 1024]⟩

abbrev nBuf : Space → Nat
  | .hbm => 67
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x4096, .f32⟩
  | .hbm, ⟨39, _⟩ => ⟨S_, .f32⟩
  | .hbm, ⟨40, _⟩ => ⟨S2048x4096, .f32⟩
  | .hbm, ⟨41, _⟩ => ⟨S2048x4096, .f32⟩
  | .hbm, ⟨42, _⟩ => ⟨S_, .f32⟩
  | .hbm, ⟨43, _⟩ => ⟨S2048x4096, .f32⟩
  | .hbm, ⟨44, _⟩ => ⟨S2048x4096, .i1⟩
  | .hbm, ⟨45, _⟩ => ⟨S_, .f32⟩
  | .hbm, ⟨46, _⟩ => ⟨S2048x4096, .f32⟩
  | .hbm, ⟨47, _⟩ => ⟨S2048x4096, .f32⟩
  | .hbm, ⟨48, _⟩ => ⟨S_, .f32⟩
  | .hbm, ⟨49, _⟩ => ⟨S2048x4096, .f32⟩
  | .hbm, ⟨50, _⟩ => ⟨S2048x4096, .f32⟩
  | .hbm, ⟨51, _⟩ => ⟨S2048x1024, .f32⟩
  | .hbm, ⟨52, _⟩ => ⟨S2048x1024, .f32⟩
  | .hbm, ⟨53, _⟩ => ⟨S1024x4096, .f32⟩
  | .hbm, ⟨54, _⟩ => ⟨S4096x1024, .f32⟩
  | .hbm, ⟨55, _⟩ => ⟨S2048x4096, .f32⟩
  | .hbm, ⟨56, _⟩ => ⟨S2048x4096, .f32⟩
  | .hbm, ⟨57, _⟩ => ⟨S_, .f32⟩
  | .hbm, ⟨58, _⟩ => ⟨S2048x4096, .f32⟩
  | .hbm, ⟨59, _⟩ => ⟨S2048x4096, .f32⟩
  | .hbm, ⟨60, _⟩ => ⟨S4096x1024, .f32⟩
  | .hbm, ⟨61, _⟩ => ⟨S1024x4096, .f32⟩
  | .hbm, ⟨62, _⟩ => ⟨S1024x4x1024, .f32⟩
  | .hbm, ⟨63, _⟩ => ⟨S4x1024x1024, .f32⟩
  | .hbm, ⟨64, _⟩ => ⟨S4x1024x1024, .bf16⟩
  | .hbm, ⟨65, _⟩ => ⟨S4x1024x1024, .f32⟩
  | .hbm, ⟨66, _⟩ => ⟨S4x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Proof.Body.lean ====
/- The kernel body at one grid point: its staging buffers as a record, and what a run of the body is. -/
module

public import proofs.«01_k».proof.Proof.Gen.KernelIdeal.Frame
public import proofs.«01_k».proof.Proof.Gen.KernelIdeal.Skeleton
public import Idealize.ShloMosaic.Lib.LaneScatter.Own

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-- The contents of the nine input buffers at a point: a tile of queries, the head's keys and values, the shared
    position keys, a tile of the outputs, of the log-sums and of the outputs' cotangent, and the three rotary tables. -/
structure Ins where
  q : Vec Ideal S256x256 .f32
  kv : Vec Ideal S2048x256 .bf16
  kp : Vec Ideal S2048x128 .bf16
  o : Vec Ideal S256x128 .bf16
  lse : Vec Ideal S1x256x1 .f32
  go : Vec Ideal S256x128 .bf16
  cs : Vec Ideal S256x128 .f32
  s1 : Vec Ideal S256x128 .f32
  s2 : Vec Ideal S256x128 .f32

/-- The twelve staging buffers the body is called with: nine inputs and three outputs. -/
structure Bufs where
  q : Memref sig .tc .vmem S256x256 .f32
  hq : q.IsWhole
  kv : Memref sig .tc .vmem S2048x256 .bf16
  hkv : kv.IsWhole
  kp : Memref sig .tc .vmem S2048x128 .bf16
  hkp : kp.IsWhole
  o : Memref sig .tc .vmem S256x128 .bf16
  ho : o.IsWhole
  lse : Memref sig .tc .vmem S1x256x1 .f32
  hlse : lse.IsWhole
  go : Memref sig .tc .vmem S256x128 .bf16
  hgo : go.IsWhole
  cs : Memref sig .tc .vmem S256x128 .f32
  hcs : cs.IsWhole
  s1 : Memref sig .tc .vmem S256x128 .f32
  hs1 : s1.IsWhole
  s2 : Memref sig .tc .vmem S256x128 .f32
  hs2 : s2.IsWhole
  dq : Memref sig .tc .vmem S256x256 .bf16
  hdq : dq.IsWhole
  dkv : Memref sig .tc .vmem S2048x256 .f32
  hdkv : dkv.IsWhole
  dkp : Memref sig .tc .vmem S2048x128 .f32
  hdkp : dkp.IsWhole

/-- The input buffers of `a` hold `x`. -/
def Bufs.holds (a : Bufs) (c : Dev nD) (x : Ins) : sProp 𝕄 :=
  iprop(owns (c : Thread nD τ) a.q fullShare x.q ∗ owns (c : Thread nD τ) a.kv fullShare x.kv
    ∗ owns (c : Thread nD τ) a.kp fullShare x.kp ∗ owns (c : Thread nD τ) a.o fullShare x.o
    ∗ owns (c : Thread nD τ) a.lse fullShare x.lse ∗ owns (c : Thread nD τ) a.go fullShare x.go
    ∗ owns (c : Thread nD τ) a.cs fullShare x.cs ∗ owns (c : Thread nD τ) a.s1 fullShare x.s1
    ∗ owns (c : Thread nD τ) a.s2 fullShare x.s2)

/-- The body on the buffers `a`. -/
def Bufs.body (a : Bufs) (i : grid0.Coords) : Prog (TpuEff nD τ sig (Elt Ideal) Λ₀ .tc) PUnit :=
  cc0_l1_attn_b i a.q a.hq a.kv a.hkv a.kp a.hkp a.o a.ho a.lse a.hlse a.go a.hgo a.cs a.hcs a.s1 a.hs1 a.s2 a.hs2
    a.dq a.hdq a.dkv a.hdkv a.dkp a.hdkp

/-- Which of the body's ten branches a point takes: the first clears the head's key and value gradient, the second the
    position keys' gradient, and the others are the eight prefixes. -/
theorem branches (i : grid0.Coords) :
    ((k0_cond1 i = 1#1) = ((i 1).val = 0)) ∧ ((k0_cond2 i = 1#1) = ((i 1).val = 0 ∧ (i 0).val = 0))
    ∧ ((k0_cond3 i = 1#1) = ((i 1).val = 0)) ∧ ((k0_cond4 i = 1#1) = ((i 1).val = 1))
    ∧ ((k0_cond5 i = 1#1) = ((i 1).val = 2)) ∧ ((k0_cond6 i = 1#1) = ((i 1).val = 3))
    ∧ ((k0_cond7 i = 1#1) = ((i 1).val = 4)) ∧ ((k0_cond8 i = 1#1) = ((i 1).val = 5))
    ∧ ((k0_cond9 i = 1#1) = ((i 1).val = 6)) ∧ ((k0_cond10 i = 1#1) = ((i 1).val = 7)) := by
  have h1 : (i 1).val < 8 := (i 1).isLt
  have h0 : (i 0).val < 8 := (i 0).isLt
  simp only [k0_cond1, k0_cond2, k0_cond3, k0_cond4, k0_cond5, k0_cond6, k0_cond7, k0_cond8, k0_cond9, k0_cond10]
  generalize (i 1).val = u at h1 ⊢
  generalize (i 0).val = v at h0 ⊢
  interval_cases u <;> interval_cases v <;> decide

/-- A whole buffer held at a value is its reference held at the contents that read as the value. -/
theorem owns_eq {c : Thread nD τ} {p : Space} {s : Shape} {e : EltTy} {m : Memref sig c.2.kind p s e} (h : m.IsWhole) (X : Vec Ideal s e) :
    (owns c m fullShare X : sProp 𝕄) = (m.view.loc c ↦[m.view.set]{fullShare} h.unread X) := by
  have hr := h.read_unread (Val := Elt Ideal) X
  generalize h.unread X = f at hr ⊢
  obtain ⟨b, hsp, hsh, he, h⟩ := h
  subst hsp hsh he
  cases h
  subst hr
  show (owns c (Memref.whole b) fullShare f : sProp 𝕄) = _
  refine (owns_whole c b fullShare f).trans ?_
  simp only [Memref.view_whole, View.set_whole]

/-- Contents that a point may clear first. -/
def fresh {α : Type} (p : Prop) [Decidable p] (u : α → EReal) : α → EReal := if p then fun _ => 0 else u

end Cert.KernelIdeal.Attn

end
-- ==== Proof.Spec.lean ====
/- What one grid point of the kernel computes, in extended reals: the scores of a tile of 256 queries against the first `n`
   keys, their probabilities, the gradient of the scores, and what the point leaves in the three output buffers. -/
module

public import proofs.«01_k».proof.Proof.Body
public import Idealize.ShloMosaic.Lib.Pipeline.ValueKit
public import Idealize.ShloMosaic.Lib.WritesUnit
public import Idealize.ShloMosaic.Lib.WholeRead
public import Idealize.ShloMosaic.Lib.Pipeline.ReadBack

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-- A matrix of extended reals. -/
abbrev Mat (a b : ℕ) := Fin a → Fin b → EReal

/-- The lane `s` places before lane `d`, around the 128 lanes. -/
def back (s : ℕ) (d : Fin 128) : Fin 128 := ⟨(d.val + 128 - s) % 128, Nat.mod_lt _ (by norm_num)⟩

/-- The rotary embedding by the tables `c`, `s`, `t`. -/
def rope (u c s t : Mat 256 128) : Mat 256 128 := fun r d =>
  u r d * c r d + u r (back 96 d) * s r d + u r (back 32 d) * t r d

/-- The adjoint of `rope`. -/
def unrope (u c s t : Mat 256 128) : Mat 256 128 := fun r d =>
  u r d * c r d + u r (back 32 d) * s r (back 32 d) + u r (back 96 d) * t r (back 96 d)

/-- The scale of the scores. -/
def scale : EReal := Ideal.ofBits FTy.f32 0x3D93CD3A#32

/-- The scores of the tile that ends at key `n`, a key of a later chunk of 64 masked. -/
def score {n : ℕ} (qn qp : Mat 256 128) (kn kp : Mat n 128) : Mat 256 n := fun r j =>
  if j.val / 64 ≤ (r.val + (n - 256)) / 64 then (∑ d, qn r d * kn j d + ∑ d, qp r d * kp j d) * scale else ⊥

/-- The probabilities, from the scores and their log-sums. -/
def prob {n : ℕ} (s : Mat 256 n) (lse : Fin 256 → EReal) : Mat 256 n := fun r j => Ideal.exp (s r j - lse r)

/-- The gradient of the scores, from the probabilities, the cotangent of the outputs, the outputs and the values. -/
def dscore {n : ℕ} (p : Mat 256 n) (go o : Mat 256 128) (v : Mat n 128) : Mat 256 n := fun r j =>
  p r j * ((∑ d, go r d * v j d - ∑ d, go r d * o r d) * scale)

/-- The left 128 columns of a block. -/
def left {a : ℕ} {e : EltTy} (u : (⟨2, ![a, 256]⟩ : Shape).Idx → Elt Ideal e) (r : Fin a) (d : Fin 128) : Elt Ideal e :=
  u (ix2 r ⟨d.val, by omega⟩)

/-- The right 128 columns of a block. -/
def right {a : ℕ} {e : EltTy} (u : (⟨2, ![a, 256]⟩ : Shape).Idx → Elt Ideal e) (r : Fin a) (d : Fin 128) : Elt Ideal e :=
  u (ix2 r ⟨128 + d.val, by omega⟩)

/-- The first `n` rows of a matrix. -/
def rows {a b : ℕ} (n : ℕ) (h : n ≤ a) (u : Mat a b) : Mat n b := fun r d => u (r.castLE h) d

section Point

variable (x : Ins) (n : ℕ) (h : n ≤ 2048)

def Ins.qn : Mat 256 128 := left x.q
def Ins.tab (t : Vec Ideal S256x128 .f32) : Mat 256 128 := fun r d => t (ix2 r d)
def Ins.qp : Mat 256 128 :=
  rope (right x.q) (fun r d => x.cs (ix2 r d)) (fun r d => x.s1 (ix2 r d)) (fun r d => x.s2 (ix2 r d))
def Ins.kn : Mat n 128 := rows n h (left x.kv)
def Ins.v : Mat n 128 := rows n h (right x.kv)
def Ins.kr : Mat n 128 := rows n h fun j d => x.kp (ix2 j d)

/-- The point's probabilities. -/
def Ins.p : Mat 256 n := prob (score x.qn x.qp (x.kn n h) (x.kr n h)) fun r => x.lse (ix3 0 r 0)

/-- The point's gradient of the scores. -/
def Ins.ds : Mat 256 n :=
  dscore (x.p n h) (fun r d => x.go (ix2 r d)) (fun r d => x.o (ix2 r d)) (x.v n h)

/-- The gradient of the tile of queries. -/
def dqOf : Vec Ideal S256x256 .bf16 := fun y =>
  if hy : (y 1).val < 128 then ∑ j, x.ds n h (y 0) j * x.kn n h j ⟨(y 1).val, hy⟩
  else unrope (fun r d => ∑ j, x.ds n h r j * x.kr n h j d) (fun r d => x.cs (ix2 r d)) (fun r d => x.s1 (ix2 r d))
    (fun r d => x.s2 (ix2 r d)) (y 0) ⟨(y 1).val - 128, by have := (y 1).isLt; dsimp at this; omega⟩

/-- The gradient of the head's keys and values, the point's part added to `u`. -/
def dkvOf (u : Vec Ideal S2048x256 .f32) : Vec Ideal S2048x256 .f32 := fun y =>
  if hj : (y 0).val < n then
    if hy : (y 1).val < 128 then u y + ∑ r, x.ds n h r ⟨(y 0).val, hj⟩ * x.qn r ⟨(y 1).val, hy⟩
    else u y + ∑ r, x.p n h r ⟨(y 0).val, hj⟩ * x.go (ix2 r ⟨(y 1).val - 128, by have := (y 1).isLt; dsimp at this; omega⟩)
  else u y

/-- The gradient of the position keys, the point's part added to `u`. -/
def dkpOf (u : Vec Ideal S2048x128 .f32) : Vec Ideal S2048x128 .f32 := fun y =>
  if hj : (y 0).val < n then u y + ∑ r, x.ds n h r ⟨(y 0).val, hj⟩ * x.qp r (y 1) else u y

theorem dqOf_left (r : Fin 256) (d : Fin 128) :
    left (dqOf x n h) (Fin.castLE le_rfl r) d = ∑ j, x.ds n h r j * x.kn n h j d := by
  unfold left dqOf
  exact dif_pos d.isLt

theorem dqOf_right (r : Fin 256) (d : Fin 128) :
    right (dqOf x n h) (Fin.castLE le_rfl r) d
      = unrope (fun r d => ∑ j, x.ds n h r j * x.kr n h j d) (fun r d => x.cs (ix2 r d)) (fun r d => x.s1 (ix2 r d))
          (fun r d => x.s2 (ix2 r d)) r d := by
  unfold right dqOf
  rw [dif_neg (by show ¬ 128 + d.val < 128; omega)]
  exact congrArg _ (Fin.ext (Nat.add_sub_cancel_left 128 d.val))

theorem dkvOf_left (u : Vec Ideal S2048x256 .f32) (j : Fin n) (d : Fin 128) :
    left (dkvOf x n h u) (Fin.castLE h j) d = left u (Fin.castLE h j) d + ∑ r, x.ds n h r j * x.qn r d := by
  unfold left dkvOf
  exact (dif_pos j.isLt).trans (dif_pos d.isLt)

theorem dkvOf_right (u : Vec Ideal S2048x256 .f32) (j : Fin n) (d : Fin 128) :
    right (dkvOf x n h u) (Fin.castLE h j) d = right u (Fin.castLE h j) d + ∑ r, x.p n h r j * x.go (ix2 r d) := by
  unfold right dkvOf
  refine (dif_pos j.isLt).trans ((dif_neg (by show ¬ 128 + d.val < 128; omega)).trans ?_)
  have e : (⟨128 + d.val - 128, by omega⟩ : Fin 128) = d := Fin.ext (Nat.add_sub_cancel_left 128 d.val)
  exact congrArg _ (Finset.sum_congr rfl fun r _ => congrArg (fun d => x.p n h r j * x.go (ix2 r d)) e)

theorem dkpOf_at (u : Vec Ideal S2048x128 .f32) (j : Fin n) (d : Fin 128) :
    dkpOf x n h u (ix2 (Fin.castLE h j) d) = u (ix2 (Fin.castLE h j) d) + ∑ r, x.ds n h r j * x.qp r d := by
  unfold dkpOf
  exact dif_pos j.isLt

end Point

/-- Scores with the keys of later chunks masked. -/
def masked {n : ℕ} (s : (⟨2, ![256, n]⟩ : Shape).Idx → EReal) : (⟨2, ![256, n]⟩ : Shape).Idx → EReal := fun y =>
  if (y 1).val / 64 ≤ ((y 0).val + (n - 256)) / 64 then s y else ⊥

theorem masked_ix2 {n : ℕ} (s : (⟨2, ![256, n]⟩ : Shape).Idx → EReal) (r : Fin 256) (j : Fin n) :
    masked s (ix2 r j) = if j.val / 64 ≤ (r.val + (n - 256)) / 64 then s (ix2 r j) else ⊥ := rfl

/-- A run of the body at the point `i`, the last `n` keys' tile: from the inputs at `x` to the inputs at `x` and the three outputs at
    what the point leaves there. A point of the first tile clears the head's gradient first, and the first point of all that of
    the position keys too. -/
def Runs (c : Dev nD) (i : grid0.Coords) (a : Bufs) (x : Ins) (n : ℕ) (h : n ≤ 2048) : Prop :=
  ∀ (u : Vec Ideal S2048x256 .f32) (w : Vec Ideal S2048x128 .f32) (E : Set ℕ) (K : PUnit → sProp 𝕄),
    iprop(a.holds c x ∗ (∃ d, owns (c : Thread nD τ) a.dq fullShare d) ∗ owns (c : Thread nD τ) a.dkv fullShare u
      ∗ owns (c : Thread nD τ) a.dkp fullShare w
      ∗ (iprop(a.holds c x ∗ owns (c : Thread nD τ) a.dq fullShare (dqOf x n h)
          ∗ owns (c : Thread nD τ) a.dkv fullShare (dkvOf x n h (fresh ((i 1).val = 0) u))
          ∗ owns (c : Thread nD τ) a.dkp fullShare (dkpOf x n h (fresh ((i 1).val = 0 ∧ (i 0).val = 0) w))) -∗ K ⟨⟩))
      ⊢ wp frame (wpE (defs₀ (F := Ideal)) Variants.none c none) E (a.body i) K

/-! ## The mask -/

/-- Floor division by 64 as the kernel writes it on words. -/
def chunkWord (a : BitVec 32) : BitVec 32 :=
  Scalar.select
    (IntOp.andi
      (IntOp.cmpi CmpIPredicate.ne
        (IntOp.subi (BitVec.setWidth 32 (IntOp.cmpi CmpIPredicate.sgt a 0#32))
          (BitVec.setWidth 32 (IntOp.cmpi CmpIPredicate.slt a 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector a 64#32) 0#32))
    (IntOp.subi (IntOp.divsi ArithUnit.vector a 64#32) 1#32)
    (IntOp.divsi ArithUnit.vector a 64#32)

theorem chunkWord_eq : ∀ a : Fin 256, chunkWord (BitVec.ofNat 32 a.val) = BitVec.ofNat 32 (a.val / 64) := by decide +kernel

theorem mask_eq (j r : ℕ) (hj : j < 256) (hr : r < 256) :
    IntOp.cmpi CmpIPredicate.sle (chunkWord (BitVec.ofNat 32 j)) (chunkWord (BitVec.ofNat 32 r))
      = if j / 64 ≤ r / 64 then 1#1 else 0#1 := by
  rw [chunkWord_eq ⟨j, hj⟩, chunkWord_eq ⟨r, hr⟩]
  have h1 : j / 64 < 4 := by omega
  have h2 : r / 64 < 4 := by omega
  dsimp only
  generalize j / 64 = a at h1 ⊢
  generalize r / 64 = b at h2 ⊢
  interval_cases a <;> interval_cases b <;> decide

/-- The masked score the kernel selects, its constant at `⊥`. -/
theorem select_mask (j r : ℕ) (hj : j < 256) (hr : r < 256) (u : EReal) :
    Scalar.select (IntOp.cmpi CmpIPredicate.sle (chunkWord (BitVec.ofNat 32 j)) (chunkWord (BitVec.ofNat 32 r))) u
        (Named.named (F := Ideal) (φ := .f32) κ "mask" 0xFF7FFFFF#32)
      = if j / 64 ≤ r / 64 then u else ⊥ := by
  rw [mask_eq j r hj hr, IdealRules.named_const.ideal_named_scalar _ _ _ _ rfl]
  split <;> rfl

/-! ## Blocks written in two halves, and loads of a whole buffer -/

section Writes

variable {sig : RefSig} {κ : Kind} {sp : Space} {a : ℕ} {e : EltTy}

/-- A block whose first `n` rows are written, left half and then right half, holds `G`, if the halves hold `G` there and the
    rows past `n` held it before. -/
theorem read_halves (v : View sig κ sp ⟨2, ![a, 256]⟩ e) (f : v.ty.Contents (Elt Ideal)) (n : ℕ)
    (L : List (View.Piece (Elt Ideal) ⟨2, ![a, 256]⟩ e))
    (inb1 : ∀ k, (![0, 128] : Fin 2 → ℕ) k + (![n, 128] : Fin 2 → ℕ) k ≤ (⟨2, ![a, 256]⟩ : Shape).size k)
    (inb0 : ∀ k, (![0, 0] : Fin 2 → ℕ) k + (![n, 128] : Fin 2 → ℕ) k ≤ (⟨2, ![a, 256]⟩ : Shape).size k)
    (w1 w0 : (⟨2, ![n, 128]⟩ : Shape).Idx → Elt Ideal e) (G : (⟨2, ![a, 256]⟩ : Shape).Idx → Elt Ideal e) (hn : n ≤ a)
    (h1 : ∀ r d, w1 (ix2 r d) = right G (Fin.castLE hn r) d) (h0 : ∀ r d, w0 (ix2 r d) = left G (Fin.castLE hn r) d)
    (hG : ∀ y, n ≤ (y 0).val → G y = v.read (Elt Ideal) (v.writes (Elt Ideal) f L) y) :
    v.read (Elt Ideal) (v.writes (Elt Ideal) f (⟨Rect.unit ![0, 128] ![n, 128] inb1, w1⟩ ::
      ⟨Rect.unit ![0, 0] ![n, 128] inb0, w0⟩ :: L)) = G := by
  funext y
  by_cases hr : (y 0).val < n
  · by_cases hd : (y 1).val < 128
    · rw [View.read_writes_cons_unit_of_not_mem v f inb1 w1 _ y rfl 1 (Or.inl hd),
        View.read_writes_cons_unit_of_mem v f inb0 w0 L y (ix2 ⟨_, hr⟩ ⟨_, hd⟩) rfl
          (by intro k; fin_cases k <;> simp [ix2])]
      refine (h0 _ _).trans (congrArg G (funext fun k => ?_))
      fin_cases k <;> rfl
    · have hy := (y 1).isLt
      dsimp at hy
      rw [View.read_writes_cons_unit_of_mem v f inb1 w1 _ y (ix2 ⟨_, hr⟩ ⟨(y 1).val - 128, by omega⟩) rfl
          (by intro k; fin_cases k <;> simp [ix2] <;> omega)]
      refine (h1 _ _).trans (congrArg G (funext fun k => Fin.ext ?_))
      fin_cases k
      · rfl
      · show 128 + ((y 1).val - 128) = (y 1).val
        omega
  · have h' : n ≤ (y 0).val := by omega
    rw [View.read_writes_cons_unit_of_not_mem v f inb1 w1 _ y rfl 0 (Or.inr (by simpa using h')),
      View.read_writes_cons_unit_of_not_mem v f inb0 w0 _ y rfl 0 (Or.inr (by simpa using h')), hG y h']

/-- A block of 128 columns whose first `n` rows are written. -/
theorem read_rows (v : View sig κ sp ⟨2, ![a, 128]⟩ e) (f : v.ty.Contents (Elt Ideal)) (n : ℕ)
    (L : List (View.Piece (Elt Ideal) ⟨2, ![a, 128]⟩ e))
    (inb0 : ∀ k, (![0, 0] : Fin 2 → ℕ) k + (![n, 128] : Fin 2 → ℕ) k ≤ (⟨2, ![a, 128]⟩ : Shape).size k)
    (w0 : (⟨2, ![n, 128]⟩ : Shape).Idx → Elt Ideal e) (G : (⟨2, ![a, 128]⟩ : Shape).Idx → Elt Ideal e) (hn : n ≤ a)
    (h0 : ∀ r d, w0 (ix2 r d) = G (ix2 (Fin.castLE hn r) d))
    (hG : ∀ y, n ≤ (y 0).val → G y = v.read (Elt Ideal) (v.writes (Elt Ideal) f L) y) :
    v.read (Elt Ideal) (v.writes (Elt Ideal) f (⟨Rect.unit ![0, 0] ![n, 128] inb0, w0⟩ :: L)) = G := by
  funext y
  by_cases hr : (y 0).val < n
  · have hd := (y 1).isLt
    dsimp at hd
    rw [View.read_writes_cons_unit_of_mem v f inb0 w0 L y (ix2 ⟨_, hr⟩ ⟨_, hd⟩) rfl
        (by intro k; fin_cases k <;> simp [ix2])]
    refine (h0 _ _).trans (congrArg G (funext fun k => ?_))
    fin_cases k <;> rfl
  · have h' : n ≤ (y 0).val := by omega
    rw [View.read_writes_cons_unit_of_not_mem v f inb0 w0 _ y rfl 0 (Or.inr (by simpa using h')), hG y h']

end Writes

end Cert.KernelIdeal.Attn

end
-- ==== Proof.First.lean ====
/- The run of the body at a head's first tile, which clears the head's gradient first. -/
module

public import proofs.«01_k».proof.Proof.Spec

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

theorem probs256 (s : Vec Ideal S256x256 .f32) (l : Vec Ideal S1x256x1 .f32) :
    k0_pay10 (F := Ideal) s (iota .tc S256x256 32 [0] iota_S256x256_d0_w32) 64#32 k0_pay8 k0_pay9 1#32 0#32 l
      = fun y => Ideal.exp (masked (n := 256) s y - l (ix3 0 (y 0) 0)) := by
  funext y
  obtain ⟨r, j, rfl⟩ : ∃ r j, y = ix2 r j := ⟨y 0, y 1, eq_ix2 y⟩
  rw [masked_ix2]
  pointwise [k0_pay10, k0_pay8, k0_pay9]
  refine congrArg (fun z => Ideal.exp (z - l (ix3 0 r 0))) ?_
  refine (select_mask j.val r.val j.isLt r.isLt _).trans ?_
  exact if_congr (by omega) rfl rfl

theorem clear_kv : k0_pay91 (F := Ideal) = fun _ => 0 := by
  funext y
  unfold k0_pay91
  exact Ideal.ofBits_zero_f32

theorem clear_kp : k0_pay92 (F := Ideal) = fun _ => 0 := by
  funext y
  unfold k0_pay92
  exact Ideal.ofBits_zero_f32

/-- A buffer just cleared, read. -/
theorem cleared {sig : RefSig} {κ : Kind} {sp : Space} {a b : ℕ} (v : View sig κ sp ⟨2, ![a, b]⟩ .f32) (f : v.ty.Contents (Elt Ideal))
    (inb : ∀ k, (![0, 0] : Fin 2 → ℕ) k + (![a, b] : Fin 2 → ℕ) k ≤ (⟨2, ![a, b]⟩ : Shape).size k)
    (w : (⟨2, ![a, b]⟩ : Shape).Idx → Elt Ideal .f32) (y : (⟨2, ![a, b]⟩ : Shape).Idx) :
    v.read (Elt Ideal) (v.writes (Elt Ideal) f [⟨Rect.unit ![0, 0] ![a, b] inb, w⟩]) y = w y :=
  View.read_writes_cons_unit_of_mem v f inb w [] y y rfl (by intro k; fin_cases k <;> simp)

set_option maxHeartbeats 4000000 in
theorem run_first (c : Dev nD) (i : grid0.Coords) (a : Bufs) (x : Ins) (hi : (i 1).val = 0) : Runs c i a x 256 (by norm_num) := by
  obtain ⟨q, hq, kv, hkv, kp, hkp, o, ho, lse, hlse, go, hgo, cs, hcs, s1, hs1, s2, hs2, wq, hwq, wkv, hwkv, wkp, hwkp⟩ := a
  obtain ⟨x0, x1, x2, x3, x4, x5, x6, x7, x8⟩ := x
  obtain ⟨c1, c2, c3, c4, c5, c6, c7, c8, c9, c10⟩ := branches i
  have pr := probs256
  unfold k0_pay8 k0_pay9 at pr
  intro u w E K
  by_cases h0 : (i 0).val = 0
  all_goals
    simp only [hi, h0, OfNat.zero_ne_ofNat, zero_ne_one, _root_.true_and, eq_iff_iff, iff_false, iff_true] at c1 c2 c3 c4 c5 c6 c7 c8 c9 c10
    simp only [fresh, hi, h0, _root_.true_and, if_true, if_false]
    unfold Bufs.body Bufs.holds
    simp only [cc0_l1_attn_b_eq_skeleton]
    unfold cc0_l1_attn_b_skel
    simp only [k0_part25_eq_skeleton, k0_part1_eq_skeleton, k0_part2_eq_skeleton, k0_part3_eq_skeleton]
    rw [owns_eq hq, owns_eq hkv, owns_eq hkp, owns_eq ho, owns_eq hlse, owns_eq hgo, owns_eq hcs, owns_eq hs1, owns_eq hs2]
    unfold owns
    iintro ⟨⟨H0, H1, H2, H3, H4, H5, H6, H7, H8⟩, ⟨%d9, %f9, -, H9⟩, ⟨%f10, %hf10, H10⟩, ⟨%f11, %hf11, H11⟩, Hk⟩
    obtain rfl := hwkv.eq_unread hf10
    obtain rfl := hwkp.eq_unread hf11
    sl_exec (disch := first | sl_exact c1 | sl_exact c2 | sl_exact c3 | sl_exact c4 | sl_exact c5 | sl_exact c6 | sl_exact c7 | sl_exact c8 | sl_exact c9 | sl_exact c10)
    sl_step
    iapply Hk
    iframe H0 H1 H2 H3 H4 H5 H6 H7 H8
    isplitl [H9]
    · iexists _; isplitr; swap; · iexact H9
      ipureintro
      sl_unfold_words
      refine read_halves _ _ 256 [] _ _ _ _ _ le_rfl (fun r d => ?_) (fun r d => ?_) (fun y hy => absurd (y 0).isLt (not_lt.mpr hy))
      · rw [dqOf_right]
        pointwise [pr, masked_ix2, Memref.IsWhole.readAt_unread]
        rfl
      · rw [dqOf_left]
        pointwise [pr, masked_ix2, Memref.IsWhole.readAt_unread]
        rfl
    isplitl [H10]
    · iexists _; isplitr; swap; · iexact H10
      ipureintro
      sl_unfold_words
      rw [clear_kv, View.readCov_skip _ _ _ _ _ (by decide), View.readCov_fill _ _ _ _ _ (by decide),
        View.readCov_fill _ _ _ _ _ (by decide)]
      refine read_halves _ _ 256 _ _ _ _ _ _ (by norm_num) (fun r d => ?_) (fun r d => ?_) (fun y hy => ?_)
      · rw [dkvOf_right]
        pointwise [pr, masked_ix2, Memref.IsWhole.readAt_unread, k0_pay94]
        exact (zero_add (_ : EReal)).symm
      · rw [dkvOf_left]
        pointwise [pr, masked_ix2, Memref.IsWhole.readAt_unread, k0_pay93]
        exact (zero_add (_ : EReal)).symm
      · exact (dif_neg (by omega)).trans (cleared wkv.view _ inb_S2048x256_S2048x256_0_0 (fun _ => 0) y).symm
    · iexists _; isplitr; swap; · iexact H11
      ipureintro
      sl_unfold_words
      first
      | rw [clear_kp, View.readCov_fill _ _ _ _ _ (by decide)]
        refine read_rows _ _ 256 _ _ _ _ (by norm_num) (fun r d => ?_) (fun y hy => ?_)
        · rw [dkpOf_at]
          pointwise [pr, masked_ix2, Memref.IsWhole.readAt_unread, k0_pay95]
          rfl
        · exact (dif_neg (by omega)).trans (cleared wkp.view _ inb_S2048x128_S2048x128_0_0 (fun _ => 0) y).symm
      | refine read_rows _ _ 256 [] _ _ _ (by norm_num) (fun r d => ?_) (fun y hy => ?_)
        · rw [dkpOf_at]
          pointwise [pr, masked_ix2, Memref.IsWhole.readAt_unread, k0_pay95]
          rfl
        · exact (dif_neg (by omega)).trans (congrFun hf11 y).symm

end Cert.KernelIdeal.Attn

end
-- ==== Proof.Later.lean ====
/- The runs of the body at the tiles after the first: tile `k` reads the first `256 (k + 1)` keys. -/
module

public import proofs.«01_k».proof.Proof.Spec

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-- The masked scores of each of these tiles: the keys before the tile as they are, the tile's own keys by their chunks. -/
theorem masks :
    (∀ s, k0_pay19 (F := Ideal) s (iota .tc S256x256 32 [0] iota_S256x256_d0_w32) 64#32 k0_pay17 k0_pay18 1#32 0#32 = masked (n := 512) s)
    ∧ (∀ s, k0_pay30 (F := Ideal) s (iota .tc S256x256 32 [0] iota_S256x256_d0_w32) 64#32 k0_pay28 k0_pay29 1#32 0#32 = masked (n := 768) s)
    ∧ (∀ s, k0_pay41 (F := Ideal) s (iota .tc S256x256 32 [0] iota_S256x256_d0_w32) 64#32 k0_pay39 k0_pay40 1#32 0#32 = masked (n := 1024) s)
    ∧ (∀ s, k0_pay52 (F := Ideal) s (iota .tc S256x256 32 [0] iota_S256x256_d0_w32) 64#32 k0_pay50 k0_pay51 1#32 0#32 = masked (n := 1280) s)
    ∧ (∀ s, k0_pay63 (F := Ideal) s (iota .tc S256x256 32 [0] iota_S256x256_d0_w32) 64#32 k0_pay61 k0_pay62 1#32 0#32 = masked (n := 1536) s)
    ∧ (∀ s, k0_pay74 (F := Ideal) s (iota .tc S256x256 32 [0] iota_S256x256_d0_w32) 64#32 k0_pay72 k0_pay73 1#32 0#32 = masked (n := 1792) s)
    ∧ (∀ s, k0_pay85 (F := Ideal) s (iota .tc S256x256 32 [0] iota_S256x256_d0_w32) 64#32 k0_pay83 k0_pay84 1#32 0#32 = masked (n := 2048) s) := by
  refine ⟨?_, ?_, ?_, ?_, ?_, ?_, ?_⟩ <;> intro s <;> funext y
  all_goals
    obtain ⟨r, j, rfl⟩ : ∃ r j, y = ix2 r j := ⟨y 0, y 1, eq_ix2 y⟩
    rw [masked_ix2]
    pointwise [k0_pay17, k0_pay18, k0_pay19, k0_pay28, k0_pay29, k0_pay30, k0_pay39, k0_pay40, k0_pay41, k0_pay50, k0_pay51, k0_pay52, k0_pay61, k0_pay62, k0_pay63, k0_pay72, k0_pay73, k0_pay74, k0_pay83, k0_pay84, k0_pay85]
    have hr := r.isLt
    have hj := j.isLt
    split
    · rw [if_pos (by omega)]
    · refine (select_mask (j.val - _) r.val (by omega) hr _).trans ?_
      refine if_congr (by omega) (congrArg (fun j => s (ix2 r j)) (Fin.ext ?_)) rfl
      dsimp only
      omega

set_option maxHeartbeats 4000000 in
/-- The runs at these tiles. -/
theorem run_later (c : Dev nD) (i : grid0.Coords) (a : Bufs) (x : Ins) :
    ((i 1).val = 1 → Runs c i a x 512 (by norm_num))
    ∧ ((i 1).val = 2 → Runs c i a x 768 (by norm_num))
    ∧ ((i 1).val = 3 → Runs c i a x 1024 (by norm_num))
    ∧ ((i 1).val = 4 → Runs c i a x 1280 (by norm_num))
    ∧ ((i 1).val = 5 → Runs c i a x 1536 (by norm_num))
    ∧ ((i 1).val = 6 → Runs c i a x 1792 (by norm_num))
    ∧ ((i 1).val = 7 → Runs c i a x 2048 (by norm_num)) := by
  obtain ⟨q, hq, kv, hkv, kp, hkp, o, ho, lse, hlse, go, hgo, cs, hcs, s1, hs1, s2, hs2, wq, hwq, wkv, hwkv, wkp, hwkp⟩ := a
  obtain ⟨x0, x1, x2, x3, x4, x5, x6, x7, x8⟩ := x
  obtain ⟨c1, c2, c3, c4, c5, c6, c7, c8, c9, c10⟩ := branches i
  obtain ⟨m1, m2, m3, m4, m5, m6, m7⟩ := masks
  unfold k0_pay17 k0_pay18 at m1
  unfold k0_pay28 k0_pay29 at m2
  unfold k0_pay39 k0_pay40 at m3
  unfold k0_pay50 k0_pay51 at m4
  unfold k0_pay61 k0_pay62 at m5
  unfold k0_pay72 k0_pay73 at m6
  refine ⟨?_, ?_, ?_, ?_, ?_, ?_, ?_⟩ <;> intro hi u w E K
  all_goals
    simp only [hi, OfNat.ofNat_ne_zero, Nat.reduceEqDiff, false_and, OfNat.ofNat_ne_one, OfNat.one_ne_ofNat, one_ne_zero, eq_iff_iff, iff_false, iff_true]
      at c1 c2 c3 c4 c5 c6 c7 c8 c9 c10
    rw [show fresh ((i 1).val = 0) u = u from if_neg (by omega),
      show fresh ((i 1).val = 0 ∧ (i 0).val = 0) w = w from if_neg (by omega)]
    unfold Bufs.body Bufs.holds
    simp only [cc0_l1_attn_b_eq_skeleton]
    unfold cc0_l1_attn_b_skel
    simp only [k0_part25_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    rw [owns_eq hq, owns_eq hkv, owns_eq hkp, owns_eq ho, owns_eq hlse, owns_eq hgo, owns_eq hcs, owns_eq hs1, owns_eq hs2]
    unfold owns
    iintro ⟨⟨H0, H1, H2, H3, H4, H5, H6, H7, H8⟩, ⟨%d9, %f9, -, H9⟩, ⟨%f10, %hf10, H10⟩, ⟨%f11, %hf11, H11⟩, Hk⟩
    obtain rfl := hwkv.eq_unread hf10
    obtain rfl := hwkp.eq_unread hf11
    sl_exec (disch := first | sl_exact c1 | sl_exact c2 | sl_exact c3 | sl_exact c4 | sl_exact c5 | sl_exact c6 | sl_exact c7 | sl_exact c8 | sl_exact c9 | sl_exact c10)
    sl_step
    iapply Hk
    iframe H0 H1 H2 H3 H4 H5 H6 H7 H8
    isplitl [H9]
    · iexists _; isplitr; swap; · iexact H9
      ipureintro
      sl_unfold_words
      refine read_halves _ _ 256 [] _ _ _ _ _ le_rfl (fun r d => ?_) (fun r d => ?_) (fun y hy => absurd (y 0).isLt (not_lt.mpr hy))
      · rw [dqOf_right]
        pointwise [masked_ix2, Memref.IsWhole.readAt_unread, k0_pay80, k0_pay81, k0_pay82, k0_pay87, k0_pay88, k0_pay89, k0_pay90, m1, m2, m3, m4, m5, m6, m7, k0_pay20, k0_pay31, k0_pay42, k0_pay53, k0_pay64, k0_pay75, k0_pay86, k0_pay96, k0_pay100, k0_pay104, k0_pay108, k0_pay112, k0_pay116, k0_pay1]
        rfl
      · rw [dqOf_left]
        pointwise [masked_ix2, Memref.IsWhole.readAt_unread, k0_pay80, k0_pay81, k0_pay82, k0_pay87, k0_pay88, k0_pay89, k0_pay90, m1, m2, m3, m4, m5, m6, m7, k0_pay20, k0_pay31, k0_pay42, k0_pay53, k0_pay64, k0_pay75, k0_pay86]
        rfl
    isplitl [H10]
    · iexists _; isplitr; swap; · iexact H10
      ipureintro
      sl_unfold_words
      refine read_halves _ _ _ [] _ _ _ _ _ (by norm_num) (fun r d => ?_) (fun r d => ?_) (fun y hy => ?_)
      · rw [dkvOf_right]
        pointwise [masked_ix2, Memref.IsWhole.readAt_unread, k0_pay80, k0_pay81, k0_pay82, k0_pay87, k0_pay88, k0_pay89, k0_pay90, m1, m2, m3, m4, m5, m6, m7, k0_pay20, k0_pay31, k0_pay42, k0_pay53, k0_pay64, k0_pay75, k0_pay86, k0_pay98, k0_pay102, k0_pay106, k0_pay110, k0_pay114, k0_pay118, k0_pay3]
        rfl
      · rw [dkvOf_left]
        pointwise [masked_ix2, Memref.IsWhole.readAt_unread, k0_pay80, k0_pay81, k0_pay82, k0_pay87, k0_pay88, k0_pay89, k0_pay90, m1, m2, m3, m4, m5, m6, m7, k0_pay20, k0_pay31, k0_pay42, k0_pay53, k0_pay64, k0_pay75, k0_pay86, k0_pay97, k0_pay101, k0_pay105, k0_pay109, k0_pay113, k0_pay117, k0_pay2]
        rfl
      · exact (dif_neg (by omega)).trans (congrFun hf10 y).symm
    · iexists _; isplitr; swap; · iexact H11
      ipureintro
      sl_unfold_words
      refine read_rows _ _ _ [] _ _ _ (by norm_num) (fun r d => ?_) (fun y hy => ?_)
      · rw [dkpOf_at]
        pointwise [masked_ix2, Memref.IsWhole.readAt_unread, k0_pay80, k0_pay81, k0_pay82, k0_pay87, k0_pay88, k0_pay89, k0_pay90, m1, m2, m3, m4, m5, m6, m7, k0_pay20, k0_pay31, k0_pay42, k0_pay53, k0_pay64, k0_pay75, k0_pay86, k0_pay99, k0_pay103, k0_pay107, k0_pay111, k0_pay115, k0_pay119, k0_pay4]
        rfl
      · exact (dif_neg (by omega)).trans (congrFun hf11 y).symm

end Cert.KernelIdeal.Attn

end
-- ==== Proof.Leg.lean ====
/- The launch: what every point leaves in the staging buffers, the body's obligation at a point, and the run of the program. -/
module

public import proofs.«01_k».proof.Proof.First
public import proofs.«01_k».proof.Proof.Later
public import Idealize.ShloMosaic.Lib.Claim
public import Idealize.ShloMosaic.Lib.Pipeline.TableIdle

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

local notation "𝕄" => MT nD τ sig Unit (Elt Ideal) ℕ (UR sig nD τ) ℕ

/-- The run of the body at any point. -/
theorem run (c : Dev nD) (i : grid0.Coords) (a : Bufs) (x : Ins) (n : ℕ) (hn : n ≤ 2048) (e : n = 256 * ((i 1).val + 1)) :
    Runs c i a x n hn := by
  have r0 := run_first c i a x
  obtain ⟨r1, r2, r3, r4, r5, r6, r7⟩ := run_later c i a x
  have h : (i 1).val < 8 := (i 1).isLt
  generalize (i 1).val = v at *
  subst e
  interval_cases v
  exacts [r0 rfl, r1 rfl, r2 rfl, r3 rfl, r4 rfl, r5 rfl, r6 rfl, r7 rfl]

/-- Point `t` is tile `t % 8` of head `t / 8`. -/
theorem coords_eq : ∀ t : Fin cfg0.N, (grid0.coords t 1).val = t.val % 8 ∧ (grid0.coords t 0).val = t.val / 8 := by
  decide +kernel

/-- How many keys a point reads. -/
def upto (t : ℕ) : ℕ := 256 * (t % 8 + 1)

theorem upto_le (t : ℕ) : upto t ≤ 2048 := by unfold upto; omega

variable (m : (ℓ : Loc nD τ sig) → Buf (Elt Ideal) ℓ) (ρ : Dev nD → PrngReg)

/-- The blocks of the nine inputs at a point. -/
def ins (c : Dev nD) (t : Fin cfg0.N) : Ins :=
  ⟨iblk m c 0 t, iblk m c 1 t, iblk m c 2 t, iblk m c 3 t, iblk m c 4 t, iblk m c 5 t, iblk m c 6 t, iblk m c 7 t, iblk m c 8 t⟩

/-- The head's key and value gradient after point `t`: begun anew at the head's first tile. -/
def dkvAt (c : Dev nD) : (t : ℕ) → t < cfg0.N → Vec Ideal S2048x256 .f32
  | 0, h => dkvOf (ins m c ⟨0, h⟩) (upto 0) (upto_le 0) fun _ => 0
  | t + 1, h => dkvOf (ins m c ⟨t + 1, h⟩) (upto (t + 1)) (upto_le (t + 1)) (fresh ((t + 1) % 8 = 0) (dkvAt c t (Nat.lt_of_succ_lt h)))

/-- The position keys' gradient after point `t`, over all heads. -/
def dkpAt (c : Dev nD) : (t : ℕ) → t < cfg0.N → Vec Ideal S2048x128 .f32
  | 0, h => dkpOf (ins m c ⟨0, h⟩) (upto 0) (upto_le 0) fun _ => 0
  | t + 1, h => dkpOf (ins m c ⟨t + 1, h⟩) (upto (t + 1)) (upto_le (t + 1)) (dkpAt c t (Nat.lt_of_succ_lt h))

attribute [local irreducible] dqOf dkvOf dkpOf iblk

/-- What the launch is proved with: each array as the host code leaves it, and after each point the input blocks and the
    three results so far. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dqOf (ins m c t) (upto t.val) (upto_le t.val)
    | ⟨10, _⟩ => dkvAt m c t.val t.isLt
    | ⟨11, _⟩ => dkpAt m c t.val t.isLt
  Φ _ := Pipeline.ΦA spec0 c
  q _ := fullShare
  owed _ := 0

theorem A_eq (c : Dev nD) (w : Fin cfg0.W) : (dats m 0 c).A w = V m c (Pipeline.arrRef spec0 w) := by dsimp only [dats]

/-- No point leaves a buffer alone. -/
theorem busy : ∀ (w : Fin cfg0.W) (t : Fin cfg0.N), cfg0.idle w (grid0.coords t) = false := by decide +kernel

/-- The head's gradient is begun anew at its first tile and at no other, -/
theorem fresh_dkv (t : ℕ) (h : t + 1 < cfg0.N) (ht : ¬(t + 1) % 8 = 0) : ¬cfg0.fresh 10 (t + 1) = true := by
  rw [Cfg.fresh_succ _ _ _ (Nat.lt_of_succ_lt h), busy, Bool.false_and, Bool.or_false, flush0_10]
  show ¬t % 8 = 7
  omega

/-- and the position keys' gradient at the grid's first point alone. -/
theorem fresh_dkp (t : ℕ) (h : t + 1 < cfg0.N) : ¬cfg0.fresh 11 (t + 1) = true := by
  rw [Cfg.fresh_succ _ _ _ (Nat.lt_of_succ_lt h), busy, Bool.false_and, Bool.or_false, flush0_11]
  have hN : cfg0.N = 64 := N_0
  show ¬t % 64 = 63
  omega

theorem before_dkv (c : Dev nD) (t : Fin cfg0.N) (d) :
    dkvAt m c t.val t.isLt
      = dkvOf (ins m c t) (upto t.val) (upto_le t.val) (fresh (t.val % 8 = 0) ((dats m 0 c).before 10 t d)) := by
  obtain ⟨t, ht⟩ := t
  cases t with
  | zero => rfl
  | succ t =>
    show dkvOf _ _ _ (fresh ((t + 1) % 8 = 0) _) = dkvOf _ _ _ (fresh ((t + 1) % 8 = 0) _)
    unfold fresh
    split
    · rfl
    · next h =>
      rw [Dat.before_out_traj _ 10 rfl (fun _ _ => rfl) (fun t _ hi => absurd ((busy 10 t).symm.trans hi) Bool.false_ne_true) (t + 1) ⟨t + 1, ht⟩ rfl d,
        if_neg (fresh_dkv t ht h)]
      rfl

theorem before_dkp (c : Dev nD) (t : Fin cfg0.N) (d) :
    dkpAt m c t.val t.isLt
      = dkpOf (ins m c t) (upto t.val) (upto_le t.val) (fresh (t.val % 8 = 0 ∧ t.val / 8 = 0) ((dats m 0 c).before 11 t d)) := by
  obtain ⟨t, ht⟩ := t
  cases t with
  | zero =>
    unfold fresh
    rw [if_pos ⟨rfl, Nat.zero_div 8⟩]
    rfl
  | succ t =>
    show dkpOf _ _ _ _ = dkpOf _ _ _ (fresh ((t + 1) % 8 = 0 ∧ (t + 1) / 8 = 0) _)
    unfold fresh
    rw [if_neg (by omega), Dat.before_out_traj _ 11 rfl (fun _ _ => rfl)
      (fun t _ hi => absurd ((busy 11 t).symm.trans hi) Bool.false_ne_true) (t + 1) ⟨t + 1, ht⟩ rfl d,
      if_neg (fresh_dkp t ht)]
    rfl

/-- The staging buffers the body is called with at point `t`. -/
def bufs (t : Fin cfg0.N) : Bufs :=
  ⟨win0_0.stage (cfg0.slots t 0), hstage0_0 ((cfg0.slots t 0).cast nbuf0_0), win0_1.stage (cfg0.slots t 1), hstage0_1 ((cfg0.slots t 1).cast nbuf0_1),
    win0_2.stage (cfg0.slots t 2), hstage0_2 ((cfg0.slots t 2).cast nbuf0_2), win0_3.stage (cfg0.slots t 3), hstage0_3 ((cfg0.slots t 3).cast nbuf0_3),
    win0_4.stage (cfg0.slots t 4), hstage0_4 ((cfg0.slots t 4).cast nbuf0_4), win0_5.stage (cfg0.slots t 5), hstage0_5 ((cfg0.slots t 5).cast nbuf0_5),
    win0_6.stage (cfg0.slots t 6), hstage0_6 ((cfg0.slots t 6).cast nbuf0_6), win0_7.stage (cfg0.slots t 7), hstage0_7 ((cfg0.slots t 7).cast nbuf0_7),
    win0_8.stage (cfg0.slots t 8), hstage0_8 ((cfg0.slots t 8).cast nbuf0_8), win0_9.stage (cfg0.slots t 9), hstage0_9 ((cfg0.slots t 9).cast nbuf0_9),
    win0_10.stage (cfg0.slots t 10), hstage0_10 ((cfg0.slots t 10).cast nbuf0_10), win0_11.stage (cfg0.slots t 11), hstage0_11 ((cfg0.slots t 11).cast nbuf0_11)⟩

theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact
  rw [busy w t]

/-- What a point leaves in the buffers, one by one. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = dqOf (ins m c t) (upto t.val) (upto_le t.val) := by dsimp only [dats]
theorem after_10 (c : Dev nD) (t : Fin cfg0.N) : (dats m 0 c).after 10 t = dkvAt m c t.val t.isLt := by dsimp only [dats]
theorem after_11 (c : Dev nD) (t : Fin cfg0.N) : (dats m 0 c).after 11 t = dkpAt m c t.val t.isLt := by dsimp only [dats]

/-- The input blocks in the buffers, window by window. -/
theorem holds_eq (c : Dev nD) (t : Fin cfg0.N) :
    (bufs t).holds c (ins m c t) = iprop(owns (c : Thread nD τ) ((cfg0.win 0).stage (cfg0.slots t 0)) fullShare (iblk m c 0 t)
      ∗ owns (c : Thread nD τ) ((cfg0.win 1).stage (cfg0.slots t 1)) fullShare (iblk m c 1 t)
      ∗ owns (c : Thread nD τ) ((cfg0.win 2).stage (cfg0.slots t 2)) fullShare (iblk m c 2 t)
      ∗ owns (c : Thread nD τ) ((cfg0.win 3).stage (cfg0.slots t 3)) fullShare (iblk m c 3 t)
      ∗ owns (c : Thread nD τ) ((cfg0.win 4).stage (cfg0.slots t 4)) fullShare (iblk m c 4 t)
      ∗ owns (c : Thread nD τ) ((cfg0.win 5).stage (cfg0.slots t 5)) fullShare (iblk m c 5 t)
      ∗ owns (c : Thread nD τ) ((cfg0.win 6).stage (cfg0.slots t 6)) fullShare (iblk m c 6 t)
      ∗ owns (c : Thread nD τ) ((cfg0.win 7).stage (cfg0.slots t 7)) fullShare (iblk m c 7 t)
      ∗ owns (c : Thread nD τ) ((cfg0.win 8).stage (cfg0.slots t 8)) fullShare (iblk m c 8 t)) := rfl

theorem owns_dq (c : Dev nD) (t : Fin cfg0.N) (v) :
    (owns (c : Thread nD τ) (bufs t).dq fullShare v : sProp 𝕄) = owns (c : Thread nD τ) ((cfg0.win 9).stage (cfg0.slots t 9)) fullShare v := rfl
theorem owns_dkv (c : Dev nD) (t : Fin cfg0.N) (v) :
    (owns (c : Thread nD τ) (bufs t).dkv fullShare v : sProp 𝕄) = owns (c : Thread nD τ) ((cfg0.win 10).stage (cfg0.slots t 10)) fullShare v := rfl
theorem owns_dkp (c : Dev nD) (t : Fin cfg0.N) (v) :
    (owns (c : Thread nD τ) (bufs t).dkp fullShare v : sProp 𝕄) = owns (c : Thread nD τ) ((cfg0.win 11).stage (cfg0.slots t 11)) fullShare v := rfl

theorem keep (c : Dev nD) (t : Fin cfg0.N) :
    (dats m 0 c).Φ t.succ = (dats m 0 c).Φ t.castSucc ∧ (dats m 0 c).owesAt () t.succ = (dats m 0 c).owesAt () t.castSucc :=
  ⟨rfl, rfl⟩

set_option maxHeartbeats 2000000 in
/-- The body at a point: from the input blocks and what the point before left, to what this point leaves. -/
theorem sound (c : Dev nD) (t : Fin cfg0.N) :
    iprop((dats m 0 c).Φ t.castSucc ∗ (dats m 0 c).owesAt () t.castSucc
      ∗ bigSep Finset.univ fun w => iprop(∃ d, owns (c : Thread nD τ) ((cfg0.win w).stage (cfg0.slots t w)) fullShare ((dats m 0 c).before w t d)))
    ⊢ wp frame (wpE (defs₀ (F := Ideal)) Variants.none c none) Set.univ ((bufs t).body (grid0.coords t)) fun _ =>
      iprop((dats m 0 c).Φ t.succ ∗ (dats m 0 c).owesAt () t.succ ∗ bigSep Finset.univ fun w => (dats m 0 c).leavesExact w t) := by
  rw [bigSep_W0, bigSep_W0, (keep m c t).1, (keep m c t).2]
  simp only [leaves, after_0, after_1, after_2, after_3, after_4, after_5, after_6, after_7, after_8, after_9, after_10, after_11,
    before0_0_of m _ (A_eq m c 0) fun _ => rfl, before0_1_of m _ (A_eq m c 1) fun _ => rfl,
    before0_2_of m _ (A_eq m c 2) fun _ => rfl, before0_3_of m _ (A_eq m c 3) fun _ => rfl, before0_4_of m _ (A_eq m c 4) fun _ => rfl,
    before0_5_of m _ (A_eq m c 5) fun _ => rfl, before0_6_of m _ (A_eq m c 6) fun _ => rfl, before0_7_of m _ (A_eq m c 7) fun _ => rfl,
    before0_8_of m _ (A_eq m c 8) fun _ => rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hr := run c (grid0.coords t) (bufs t) (ins m c t) (upto t.val) (upto_le t.val) (by rw [(coords_eq t).1]; rfl)
    ((dats m 0 c).before 10 t d10) ((dats m 0 c).before 11 t d11) Set.univ
  rw [(coords_eq t).1, (coords_eq t).2, ← before_dkv, ← before_dkp] at hr
  rw [holds_eq] at hr
  simp only [owns_dq, owns_dkv, owns_dkp] at hr
  iapply hr
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  isplitl [H10]; · iexact H10
  isplitl [H11]; · iexact H11
  iintro ⟨⟨H0, H1, H2, H3, H4, H5, H6, H7, H8⟩, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) : (defs₀ (F := Ideal)) .tc cfg0.body (cfg0.bodyArgs t (cfg0.slots t)) = (bufs t).body (grid0.coords t) := by
  unfold defs₀
  rw [Defs.onTc_tc]
  rfl

theorem obligation (c : Dev nD) : BodyObligation (dats m 0 c) (defs₀ (F := Ideal)) Variants.none () Set.univ := fun t => by
  rw [defs₀_row]
  exact triple_restated (sound m c t) rfl .rfl fun _ => .rfl

set_option backward.isDefEq.respectTransparency.types false in
/-- The run of the program: every array of the launch ends as the points left it, and no semaphore is left raised. -/
theorem runs : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

end Cert.KernelIdeal.Attn

end
-- ==== Proof.Math.lean ====
/- The attention and its gradient in real numbers: the specification both programs are compared with. -/
module

public import Idealize.ShloMosaic.Lib.IdealHost
public import Idealize.ShloMosaic.Lib.Pointwise.Index

@[expose] public section

noncomputable section

namespace Cert.Attn

open Idealize.ShloMosaic

/-- A matrix of reals. -/
abbrev RMat (a b : ℕ) := Fin a → Fin b → ℝ

/-- The six arguments as reals: queries, keys and values, position keys, the cosines and sines of the rotary embedding,
    and the cotangent of the attention's output. -/
structure Args where
  q : RMat 2048 2048
  kv : RMat 2048 2048
  kp : RMat 2048 128
  cos : RMat 2048 32
  sin : RMat 2048 32
  go : RMat 2048 1024

/-- The scale of the scores as a real. -/
def scaleR : ℝ := (Ideal.ofBits FTy.f32 0x3D93CD3A#32).toReal

theorem scale_coe : Ideal.ofBits FTy.f32 0x3D93CD3A#32 = ((scaleR : ℝ) : EReal) := by
  unfold scaleR
  refine (EReal.coe_toReal ?_ ?_).symm <;> simp [Ideal.ofBits, Ideal.ieee, -EReal.coe_mul]

/-- A sum of reals, as an extended real. -/
theorem coe_sum {ι : Type} [Fintype ι] (f : ι → ℝ) : ∑ k, ((f k : ℝ) : EReal) = ((∑ k, f k : ℝ) : EReal) :=
  (map_sum (⟨⟨Real.toEReal, rfl⟩, EReal.coe_add⟩ : ℝ →+ EReal) f _).symm

/-- A sum over the first `n` of `N` whose terms vanish beyond. -/
theorem sum_upto {n N : ℕ} (hn : n ≤ N) (f : Fin N → ℝ) (hf : ∀ j : Fin N, ¬j.val < n → f j = 0) :
    ∑ j : Fin n, f (j.castLE hn) = ∑ j, f j := by
  refine (Finset.sum_map Finset.univ (Fin.castLEEmb hn) f).symm.trans ?_
  refine Finset.sum_subset (Finset.subset_univ _) fun j _ hj => hf j fun hlt => hj ?_
  exact Finset.mem_map.mpr ⟨⟨j.val, hlt⟩, Finset.mem_univ _, rfl⟩

theorem ofBits_ninf : Ideal.ofBits FTy.f32 0xFF800000#32 = ⊥ := by
  simp [Ideal.ofBits, Ideal.ieee]

/-- The greatest of scores of which one is real and the rest real or −∞ is real. -/
theorem max_real {n : ℕ} (s : Fin n → EReal) (ht : ∀ j, s j ≠ ⊤) (j : Fin n) (x : ℝ) (hx : s j = x) :
    ∃ M : ℝ, Finset.univ.fold max ⊥ s = M := by
  refine ⟨(Finset.univ.fold max ⊥ s).toReal, (EReal.coe_toReal ?_ ?_).symm⟩
  · exact ((Finset.fold_max_lt _).mpr ⟨bot_lt_top, fun k _ => lt_top_iff_ne_top.mpr (ht k)⟩).ne
  · exact (lt_of_lt_of_le (hx ▸ EReal.bot_lt_coe x : ⊥ < s j) ((Finset.le_fold_max _).mpr (.inr ⟨j, Finset.mem_univ j, le_rfl⟩))).ne'

/-- Position `r` may look at position `j`: `j` is in `r`'s chunk of 64 or an earlier one. -/
def Seen (r j : Fin 2048) : Prop := j.val / 64 ≤ r.val / 64

instance (r j : Fin 2048) : Decidable (Seen r j) := inferInstanceAs (Decidable (_ ≤ _))

namespace Args

variable (A : Args) (h : Fin 8)

def qn : RMat 2048 128 := fun r d => A.q r ⟨h.val * 256 + d.val, by omega⟩
def qx : RMat 2048 128 := fun r d => A.q r ⟨h.val * 256 + (128 + d.val), by omega⟩
def kn : RMat 2048 128 := fun j d => A.kv j ⟨h.val * 256 + d.val, by omega⟩
def v : RMat 2048 128 := fun j d => A.kv j ⟨h.val * 256 + (128 + d.val), by omega⟩
def g : RMat 2048 128 := fun r d => A.go r ⟨h.val * 128 + d.val, by omega⟩

/-- The first and the second half of a rotated query. -/
def qp1 : RMat 2048 32 := fun r d =>
  A.qx h r ⟨d.val, by omega⟩ * A.cos r d - A.qx h r ⟨32 + d.val, by omega⟩ * A.sin r d
def qp2 : RMat 2048 32 := fun r d =>
  A.qx h r ⟨d.val, by omega⟩ * A.sin r d + A.qx h r ⟨32 + d.val, by omega⟩ * A.cos r d

/-- The scores. -/
def sc : RMat 2048 2048 := fun r j =>
  (∑ d, A.qn h r d * A.kn h j d
    + (∑ d : Fin 32, A.qp1 h r d * A.kp j ⟨d.val, by omega⟩ + ∑ d : Fin 32, A.qp2 h r d * A.kp j ⟨32 + d.val, by omega⟩)) * scaleR

/-- The sum of the exponentials of the scores a query may look at. -/
def z (r : Fin 2048) : ℝ := ∑ j, if Seen r j then Real.exp (A.sc h r j) else 0

/-- The probabilities. -/
def p : RMat 2048 2048 := fun r j => if Seen r j then Real.exp (A.sc h r j) / A.z h r else 0

/-- The output. -/
def o : RMat 2048 128 := fun r d => ∑ j, A.p h r j * A.v h j d

/-- The gradient of the probabilities, -/
def dp : RMat 2048 2048 := fun r j => ∑ d, A.g h r d * A.v h j d

/-- and of the scores before they are scaled. -/
def ds : RMat 2048 2048 := fun r j => A.p h r j * ((A.dp h r j - ∑ k, A.p h r k * A.dp h r k) * scaleR)

/-- The gradient of a rotated query: lane `d` of its first 128. -/
def u : RMat 2048 128 := fun r d => ∑ j, A.ds h r j * A.kp j d

/-- The gradient of a query in its lanes without position, -/
def dqn : RMat 2048 128 := fun r d => ∑ j, A.ds h r j * A.kn h j d

/-- and in those with it. -/
def dqx : RMat 2048 128 := fun r d =>
  if hd : d.val < 32 then A.u h r d * A.cos r ⟨d.val, hd⟩ + A.u h r ⟨32 + d.val, by omega⟩ * A.sin r ⟨d.val, hd⟩
  else if hd' : d.val < 64 then
    A.u h r d * A.cos r ⟨d.val - 32, by omega⟩ - A.u h r ⟨d.val - 32, by omega⟩ * A.sin r ⟨d.val - 32, by omega⟩
  else 0

/-- The gradient of a key and of a value. -/
def dkn : RMat 2048 128 := fun j d => ∑ r, A.ds h r j * A.qn h r d
def dv : RMat 2048 128 := fun j d => ∑ r, A.p h r j * A.g h r d

/-- A rotated query in 128 lanes. -/
def qp : RMat 2048 128 := fun r d =>
  if hd : d.val < 32 then A.qp1 h r ⟨d.val, hd⟩ else if hd' : d.val < 64 then A.qp2 h r ⟨d.val - 32, by omega⟩ else 0

/-- The gradient of a position key, over all heads. -/
def dkp : RMat 2048 128 := fun j d => ∑ h, ∑ r, A.ds h r j * A.qp h r d

/-- The gradient of the queries: each head's 128 lanes without position, then those with it. -/
def dq : RMat 2048 2048 := fun r l =>
  if hd : l.val % 256 < 128 then A.dqn ⟨l.val / 256, by omega⟩ r ⟨l.val % 256, hd⟩
  else A.dqx ⟨l.val / 256, by omega⟩ r ⟨l.val % 256 - 128, by omega⟩

/-- The gradient of the keys and values: each head's key, then its value. -/
def dkv : RMat 2048 2048 := fun j l =>
  if hd : l.val % 256 < 128 then A.dkn ⟨l.val / 256, by omega⟩ j ⟨l.val % 256, hd⟩
  else A.dv ⟨l.val / 256, by omega⟩ j ⟨l.val % 256 - 128, by omega⟩

theorem z_pos (r : Fin 2048) : 0 < A.z h r := by
  refine Finset.sum_pos' (fun j _ => ?_) ⟨r, Finset.mem_univ r, ?_⟩
  · split
    · exact (Real.exp_pos _).le
    · exact le_rfl
  · rw [if_pos (show Seen r r from le_refl _)]
    exact Real.exp_pos _

/-- The exponentials of the scores less `M`, -/
def ex (r : Fin 2048) (M : ℝ) (j : Fin 2048) : ℝ := if Seen r j then Real.exp (A.sc h r j - M) else 0

/-- and their sum. -/
def tot (r : Fin 2048) (M : ℝ) : ℝ := ∑ j, A.ex h r M j

theorem tot_eq (r : Fin 2048) (M : ℝ) : A.tot h r M = A.z h r * Real.exp (-M) := by
  unfold tot z ex
  rw [Finset.sum_mul]
  refine Finset.sum_congr rfl fun j _ => ?_
  split
  · rw [← Real.exp_add]; rfl
  · rw [zero_mul]

theorem tot_pos (r : Fin 2048) (M : ℝ) : 0 < A.tot h r M := by
  rw [tot_eq]
  exact mul_pos (A.z_pos h r) (Real.exp_pos _)

/-- The probabilities do not depend on `M`, -/
theorem ex_div (r : Fin 2048) (M : ℝ) (j : Fin 2048) : A.ex h r M j / A.tot h r M = A.p h r j := by
  rw [tot_eq]
  unfold ex p
  split
  · rw [sub_eq_add_neg, Real.exp_add, mul_div_mul_right _ _ (Real.exp_pos _).ne']
  · rw [zero_div]

/-- nor does the logarithm of the sum of exponentials. -/
theorem log_tot (r : Fin 2048) (M : ℝ) : M + Real.log (A.tot h r M) = Real.log (A.z h r) := by
  rw [tot_eq, Real.log_mul (A.z_pos h r).ne' (Real.exp_pos _).ne', Real.log_exp]
  ring

/-- The gradient of the scores out of the exponentials. -/
theorem ds_ex (r j : Fin 2048) (M : ℝ) :
    (A.dp h r j / A.tot h r M + -∑ k, A.dp h r k * (1 / (A.tot h r M * A.tot h r M)) * A.ex h r M k) * A.ex h r M j * scaleR
      = A.ds h r j := by
  have hT := (A.tot_pos h r M).ne'
  unfold ds
  simp only [← A.ex_div h r M]
  have e : ∑ k, A.dp h r k * (1 / (A.tot h r M * A.tot h r M)) * A.ex h r M k
      = (∑ k, A.ex h r M k / A.tot h r M * A.dp h r k) / A.tot h r M := by
    rw [Finset.sum_div]
    exact Finset.sum_congr rfl fun k _ => by field_simp
  rw [e]
  field_simp
  ring

/-- Over 128 lanes whose last 64 are zero, a sum is the sum over the first and the second 32. -/
theorem sum_lanes (f : Fin 128 → ℝ) (hf : ∀ d : Fin 128, 64 ≤ d.val → f d = 0) :
    ∑ d, f d = ∑ d : Fin 32, f ⟨d.val, by omega⟩ + ∑ d : Fin 32, f ⟨32 + d.val, by omega⟩ := by
  rw [show (∑ d, f d) = ∑ d : Fin (32 + 96), f d from rfl, Fin.sum_univ_add,
    show (∑ d : Fin 96, f (Fin.natAdd 32 d)) = ∑ d : Fin (32 + 64), f (Fin.natAdd 32 d) from rfl, Fin.sum_univ_add]
  refine congrArg₂ _ rfl ((congrArg₂ _ rfl (Finset.sum_eq_zero fun d _ => hf _ ?_)).trans (add_zero _))
  show 64 ≤ 32 + (32 + d.val)
  omega

/-- The rotated part of the scores. -/
theorem sum_qp (r j : Fin 2048) :
    ∑ d, A.qp h r d * A.kp j d
      = ∑ d : Fin 32, A.qp1 h r d * A.kp j ⟨d.val, by omega⟩ + ∑ d : Fin 32, A.qp2 h r d * A.kp j ⟨32 + d.val, by omega⟩ := by
  rw [sum_lanes _ fun d hd => by rw [qp, dif_neg (by omega), dif_neg (by omega), zero_mul]]
  refine congrArg₂ _ (Finset.sum_congr rfl fun d _ => ?_) (Finset.sum_congr rfl fun d _ => ?_)
  · rw [qp, dif_pos d.isLt]
  · rw [qp, dif_neg (by simp), dif_pos (by show 32 + d.val < 64; omega)]
    exact congrArg (fun e => A.qp2 h r e * _) (Fin.ext (Nat.add_sub_cancel_left 32 d.val))

/-- The cotangent against the output is the probabilities against their gradient. -/
theorem sum_go (r : Fin 2048) : ∑ d, A.g h r d * A.o h r d = ∑ j, A.p h r j * A.dp h r j := by
  simp only [o, dp, Finset.mul_sum]
  rw [Finset.sum_comm]
  exact Finset.sum_congr rfl fun j _ => Finset.sum_congr rfl fun d _ => by ring

end Args

end Cert.Attn

end
-- ==== Proof.Tile.lean ====
/- A grid point whose blocks are those of real arguments: its results are those of the real specification. -/
module

public import proofs.«01_k».proof.Proof.Spec
public import proofs.«01_k».proof.Proof.Math

@[expose] public section

set_option maxRecDepth 16384

noncomputable section

namespace Cert.KernelIdeal.Attn

open Idealize.ShloMosaic Idealize.ShloMosaic.TcCoe
open Cert.KernelIdeal Cert.KernelIdeal.Gen Cert.Attn

/-- Row `r` of tile `i`. -/
def row (i : Fin 8) (r : Fin 256) : Fin 2048 := ⟨256 * i.val + r.val, by omega⟩

/-- The three rotary tables in 128 lanes. -/
def tabC (A : Args) : RMat 2048 128 := fun r d =>
  if hd : d.val < 32 then A.cos r ⟨d.val, hd⟩ else if hd' : d.val < 64 then A.cos r ⟨d.val - 32, by omega⟩ else 0
def tabS1 (A : Args) : RMat 2048 128 := fun r d => if hd : d.val < 32 then -A.sin r ⟨d.val, hd⟩ else 0
def tabS2 (A : Args) : RMat 2048 128 := fun r d =>
  if d.val < 32 then 0 else if hd' : d.val < 64 then A.sin r ⟨d.val - 32, by omega⟩ else 0

/-- The blocks `x` are those of tile `i` of head `h` at the real arguments `A`. -/
structure Holds (x : Ins) (A : Args) (h i : Fin 8) : Prop where
  q : ∀ r (d : Fin 256), x.q (ix2 r d) = (A.q (row i r) ⟨h.val * 256 + d.val, by omega⟩ : EReal)
  kv : ∀ j (d : Fin 256), x.kv (ix2 j d) = (A.kv j ⟨h.val * 256 + d.val, by omega⟩ : EReal)
  kp : ∀ j d, x.kp (ix2 j d) = (A.kp j d : EReal)
  o : ∀ r d, x.o (ix2 r d) = (A.o h (row i r) d : EReal)
  lse : ∀ r, x.lse (ix3 0 r 0) = (Real.log (A.z h (row i r)) : EReal)
  go : ∀ r d, x.go (ix2 r d) = (A.g h (row i r) d : EReal)
  cs : ∀ r d, x.cs (ix2 r d) = (tabC A (row i r) d : EReal)
  s1 : ∀ r d, x.s1 (ix2 r d) = (tabS1 A (row i r) d : EReal)
  s2 : ∀ r d, x.s2 (ix2 r d) = (tabS2 A (row i r) d : EReal)

section Tile

variable {x : Ins} {A : Args} {h i : Fin 8} (H : Holds x A h i)
include H

theorem qn_eq (r : Fin 256) (d : Fin 128) : x.qn r d = (A.qn h (row i r) d : EReal) := H.q r ⟨d.val, by omega⟩

theorem qx_eq (r : Fin 256) (d : Fin 128) : right x.q r d = (A.qx h (row i r) d : EReal) := H.q r ⟨128 + d.val, by omega⟩

theorem qp_eq (r : Fin 256) (d : Fin 128) : x.qp r d = (A.qp h (row i r) d : EReal) := by
  unfold Ins.qp rope
  simp only [qx_eq H, H.cs, H.s1, H.s2, ← EReal.coe_mul, ← EReal.coe_add]
  congr 1
  unfold tabC tabS1 tabS2 Args.qp Args.qp1 Args.qp2 back
  have hd := d.isLt
  by_cases h1 : d.val < 32
  · simp only [h1, dif_pos, if_pos]
    have e : (⟨(d.val + 128 - 96) % 128, Nat.mod_lt _ (by norm_num)⟩ : Fin 128) = ⟨32 + d.val, by omega⟩ := Fin.ext (by show (d.val + 128 - 96) % 128 = 32 + d.val; omega)
    rw [e]
    ring
  · by_cases h2 : d.val < 64
    · simp only [h1, h2, dif_neg, dif_pos, if_neg, not_false_eq_true]
      have e : (⟨(d.val + 128 - 32) % 128, Nat.mod_lt _ (by norm_num)⟩ : Fin 128) = ⟨d.val - 32, by omega⟩ := Fin.ext (by show (d.val + 128 - 32) % 128 = d.val - 32; omega)
      have e' : (⟨32 + (d.val - 32), by omega⟩ : Fin 128) = d := Fin.ext (by show 32 + (d.val - 32) = d.val; omega)
      rw [e, e']
      ring
    · simp only [h1, h2, dif_neg, if_neg, not_false_eq_true]
      ring

variable {n : ℕ} (hn : n ≤ 2048)

theorem kn_eq (j : Fin n) (d : Fin 128) : x.kn n hn j d = (A.kn h (j.castLE hn) d : EReal) := H.kv _ ⟨d.val, by omega⟩

theorem v_eq (j : Fin n) (d : Fin 128) : x.v n hn j d = (A.v h (j.castLE hn) d : EReal) := H.kv _ ⟨128 + d.val, by omega⟩

theorem kr_eq (j : Fin n) (d : Fin 128) : x.kr n hn j d = (A.kp (j.castLE hn) d : EReal) := H.kp _ d

variable (e : n = 256 * (i.val + 1))
include e

theorem p_eq (r : Fin 256) (j : Fin n) : x.p n hn r j = (A.p h (row i r) (j.castLE hn) : EReal) := by
  unfold Ins.p prob score Args.p
  simp only [qn_eq H, qp_eq H, kn_eq H, kr_eq H, H.lse, ← EReal.coe_mul, coe_sum, ← EReal.coe_add]
  have hs : Seen (row i r) (j.castLE hn) ↔ j.val / 64 ≤ (r.val + (n - 256)) / 64 := by
    unfold Seen row
    show j.val / 64 ≤ (256 * i.val + r.val) / 64 ↔ _
    rw [show r.val + (n - 256) = 256 * i.val + r.val by omega]
  by_cases hk : j.val / 64 ≤ (r.val + (n - 256)) / 64
  · rw [if_pos hk, if_pos (hs.2 hk), scale, scale_coe, ← EReal.coe_mul, ← EReal.coe_sub, Ideal.exp_coe, Real.exp_sub,
      Real.exp_log (A.z_pos h _), A.sum_qp]
    rfl
  · rw [if_neg hk, if_neg fun hc => hk (hs.1 hc)]
    exact (congrArg Ideal.exp (EReal.bot_sub _)).trans Ideal.exp_bot

theorem ds_eq (r : Fin 256) (j : Fin n) : x.ds n hn r j = (A.ds h (row i r) (j.castLE hn) : EReal) := by
  unfold Ins.ds dscore Args.ds
  simp only [p_eq H hn e, v_eq H, H.go, H.o, scale, scale_coe, ← EReal.coe_mul, coe_sum, ← EReal.coe_sub, A.sum_go]
  rfl

/-- Keys beyond the tile's prefix are seen by none of its queries. -/
theorem p_beyond (r : Fin 256) (j : Fin 2048) (hj : ¬j.val < n) : A.p h (row i r) j = 0 := by
  refine if_neg fun hc => hj ?_
  have hc : j.val / 64 ≤ (256 * i.val + r.val) / 64 := hc
  omega

theorem ds_beyond (r : Fin 256) (j : Fin 2048) (hj : ¬j.val < n) : A.ds h (row i r) j = 0 := by
  unfold Args.ds
  rw [p_beyond H e r j hj, zero_mul]

theorem dq_left (r : Fin 256) (d : Fin 128) :
    left (dqOf x n hn) r d = (A.dqn h (row i r) d : EReal) := by
  refine (dqOf_left x n hn r d).trans ?_
  simp only [ds_eq H hn e, kn_eq H, ← EReal.coe_mul, coe_sum]
  exact congrArg _ (sum_upto hn (fun j => A.ds h (row i r) j * A.kn h j d) fun j hj => by rw [ds_beyond H e r j hj, zero_mul])

theorem dq_right (r : Fin 256) (d : Fin 128) :
    right (dqOf x n hn) r d = (A.dqx h (row i r) d : EReal) := by
  refine (dqOf_right x n hn r d).trans ?_
  have hu (d) : ∑ j, x.ds n hn r j * x.kr n hn j d = (A.u h (row i r) d : EReal) := by
    simp only [ds_eq H hn e, kr_eq H, ← EReal.coe_mul, coe_sum]
    exact congrArg _ (sum_upto hn (fun j => A.ds h (row i r) j * A.kp j d) fun j hj => by rw [ds_beyond H e r j hj, zero_mul])
  unfold unrope
  simp only [hu, H.cs, H.s1, H.s2, ← EReal.coe_mul, ← EReal.coe_add]
  congr 1
  unfold tabC tabS1 tabS2 Args.dqx back
  have hd := d.isLt
  by_cases h1 : d.val < 32
  · have e1 : ¬(d.val + 128 - 32) % 128 < 32 := by omega
    have e2 : (⟨(d.val + 128 - 96) % 128, Nat.mod_lt _ (by norm_num)⟩ : Fin 128) = ⟨32 + d.val, by omega⟩ :=
      Fin.ext (by show (d.val + 128 - 96) % 128 = 32 + d.val; omega)
    have e6 : (d.val + 128 - 96) % 128 = 32 + d.val := by omega
    have e3 : ¬32 + d.val < 32 := by omega
    have e4 : 32 + d.val < 64 := by omega
    have e5 : (⟨32 + d.val - 32, by omega⟩ : Fin 32) = ⟨d.val, h1⟩ := Fin.ext (by show 32 + d.val - 32 = d.val; omega)
    simp only [e2, e6, h1, e1, e3, e4, e5, dif_pos, dif_neg, if_neg, not_false_eq_true]
    ring
  · by_cases h2 : d.val < 64
    · have e1 : (⟨(d.val + 128 - 32) % 128, Nat.mod_lt _ (by norm_num)⟩ : Fin 128) = ⟨d.val - 32, by omega⟩ :=
        Fin.ext (by show (d.val + 128 - 32) % 128 = d.val - 32; omega)
      have e5 : (d.val + 128 - 32) % 128 = d.val - 32 := by omega
      have e2 : d.val - 32 < 32 := by omega
      have e3 : ¬(d.val + 128 - 96) % 128 < 32 := by omega
      have e4 : ¬(d.val + 128 - 96) % 128 < 64 := by omega
      simp only [e1, e5, h1, h2, e2, e3, e4, dif_pos, dif_neg, if_neg, not_false_eq_true]
      ring
    · have e1 : ¬(d.val + 128 - 32) % 128 < 32 := by omega
      have e2 : (d.val + 128 - 96) % 128 < 32 ∨ (¬(d.val + 128 - 96) % 128 < 32 ∧ ¬(d.val + 128 - 96) % 128 < 64) := by omega
      rcases e2 with e2 | ⟨e2, e3⟩
      · simp only [h1, h2, e1, e2, dif_pos, if_pos, dif_neg, not_false_eq_true]
        ring
      · simp only [h1, h2, e1, e2, e3, dif_neg, if_neg, not_false_eq_true]
        ring

theorem dkv_left (u : Vec Ideal S2048x256 .f32) (j : Fin 2048) (d : Fin 128) :
    left (dkvOf x n hn u) j d
      = left u j d + ((∑ r, A.ds h (row i r) j * A.qn h (row i r) d : ℝ) : EReal) := by
  by_cases hj : j.val < n
  · refine (dkvOf_left x n hn u ⟨j.val, hj⟩ d).trans (congrArg (left u j d + ·) ?_)
    simp only [ds_eq H hn e, qn_eq H, ← EReal.coe_mul, coe_sum]
    rfl
  · rw [Finset.sum_eq_zero fun r _ => by rw [ds_beyond H e r j hj, zero_mul], EReal.coe_zero, add_zero]
    exact dif_neg hj

theorem dkv_right (u : Vec Ideal S2048x256 .f32) (j : Fin 2048) (d : Fin 128) :
    right (dkvOf x n hn u) j d
      = right u j d + ((∑ r, A.p h (row i r) j * A.g h (row i r) d : ℝ) : EReal) := by
  by_cases hj : j.val < n
  · refine (dkvOf_right x n hn u ⟨j.val, hj⟩ d).trans (congrArg (right u j d + ·) ?_)
    simp only [p_eq H hn e, H.go, ← EReal.coe_mul, coe_sum]
    rfl
  · rw [Finset.sum_eq_zero fun r _ => by rw [p_beyond H e r j hj, zero_mul], EReal.coe_zero, add_zero]
    exact dif_neg hj

theorem dkp_at (u : Vec Ideal S2048x128 .f32) (j : Fin 2048) (d : Fin 128) :
    dkpOf x n hn u (ix2 j d)
      = u (ix2 j d) + ((∑ r, A.ds h (row i r) j * A.qp h (row i r) d : ℝ) : EReal) := by
  by_cases hj : j.val < n
  · refine (dkpOf_at x n hn u ⟨j.val, hj⟩ d).trans (congrArg (u (ix2 j d) + ·) ?_)
    simp only [ds_eq H hn e, qp_eq H, ← EReal.coe_mul, coe_sum]
    rfl
  · rw [Finset.sum_eq_zero fun r _ => by rw [ds_beyond H e r j hj, zero_mul], EReal.coe_zero, add_zero]
    exact dif_neg hj

end Tile

end Cert.KernelIdeal.Attn

end
-- ==== Proof.Scores.lean ====
/- The scores of the reference, entry by entry, as real numbers. -/
module

public import proofs.«01_k».proof.Proof.Math
public import proofs.«01_k».proof.Proof.Gen.ReferenceIdeal.Run
public import Idealize.ShloMosaic.Lib.Pipeline.ValueKit.Point
public import Idealize.ShloMosaic.Lib.Tactic
public import Idealize.ShloMosaic.Lib.Tactic.CleanTypes

@[expose] public section

set_option maxRecDepth 16384

noncomputable section

namespace Cert.ReferenceIdeal.Attn

open Idealize.ShloMosaic Idealize.ShloMosaic.StableHlo
open Idealize.SL.Sem
open Cert.Attn Cert.ReferenceIdeal Cert.ReferenceIdeal.Gen Cert.ReferenceIdeal.Value

local notation "Val" => Valuation τ sig (Elt Ideal)

/-- The six arguments hold the reals `A`. -/
structure Reads (V0 : Val) (A : Args) : Prop where
  q : ∀ (r l : Fin 2048), V0 (Proc.devRef .tc main_arg0) (ix2 r l) = (A.q r l : EReal)
  kv : ∀ (r l : Fin 2048), V0 (Proc.devRef .tc main_arg1) (ix2 r l) = (A.kv r l : EReal)
  kp : ∀ (r : Fin 2048) (l : Fin 128), V0 (Proc.devRef .tc main_arg2) (ix2 r l) = (A.kp r l : EReal)
  cos : ∀ (r : Fin 2048) (l : Fin 32), V0 (Proc.devRef .tc main_arg3) (ix2 r l) = (A.cos r l : EReal)
  sin : ∀ (r : Fin 2048) (l : Fin 32), V0 (Proc.devRef .tc main_arg4) (ix2 r l) = (A.sin r l : EReal)
  go : ∀ (r : Fin 2048) (l : Fin 1024), V0 (Proc.devRef .tc main_arg5) (ix2 r l) = (A.go r l : EReal)

section
variable {V0 : Val} {A : Args} (H : Reads V0 A) (h : Fin 8)
include H

theorem qn_at (r : Fin 2048) (d : Fin 128) : res_main_v6 V0 (ix3 r h d) = (A.qn h r d : EReal) := by
  pointwise [res_main_v6, res_main_v5, res_main_v0]
  exact H.q _ _

theorem kn_at (j : Fin 2048) (d : Fin 128) : res_main_v24 V0 (ix3 j h d) = (A.kn h j d : EReal) := by
  pointwise [res_main_v24, res_main_v0]
  exact H.kv _ _

theorem v_at (j : Fin 2048) (d : Fin 128) : res_main_v4 V0 (ix3 j h d) = (A.v h j d : EReal) := by
  pointwise [res_main_v4, res_main_v0]
  exact H.kv _ _

theorem kp_at (j : Fin 2048) (d : Fin 64) : res_main_v25 V0 (ix2 j d) = (A.kp j ⟨d.val, by omega⟩ : EReal) := by
  pointwise [res_main_v25]
  exact H.kp _ _

theorem qp_at (r : Fin 2048) (d : Fin 64) : res_main_v22 V0 (ix3 r h d) = (A.qp h r ⟨d.val, by omega⟩ : EReal) := by
  pointwise [res_main_v22, res_main_v10, res_main_v11, res_main_v8, res_main_v9, res_main_v7, res_main_v5]
  unfold Args.qp Args.qp1 Args.qp2 Args.qx
  split <;> rename_i hd
  · simp only [hd, dif_pos, H.q, H.cos, H.sin, ← EReal.coe_mul, ← EReal.coe_sub]
  · have hd' : d.val < 64 := d.isLt
    simp only [hd, hd', dif_pos, dif_neg, not_false_eq_true, H.q, H.cos, H.sin, ← EReal.coe_mul, ← EReal.coe_add]

end

/-- The chunk of 64 of a position. -/
theorem chunk_at : ∀ (V0 : Val) (r : Fin 2048), res_main_v33 V0 (ix1 r) = BitVec.ofNat 32 (r.val / 64) := by
  intro V0
  unfold res_main_v33 res_main_call0_v2 res_main_v32 res_main_call0_v0
  decide +kernel

theorem chunk_le : ∀ a b : Fin 32, IntOp.cmpi .sle (BitVec.ofNat 32 a.val) (BitVec.ofNat 32 b.val) = if a.val ≤ b.val then 1#1 else 0#1 := by
  decide +kernel

/-- The mask. -/
theorem mask_at (V0 : Val) (h : Fin 8) (r j : Fin 2048) :
    res_main_v39_1 V0 (ix3 h r j) = if Seen r j then 1#1 else 0#1 := by
  pointwise [res_main_v39_1]
  rw [chunk_at, chunk_at]
  exact chunk_le ⟨j.val / 64, by omega⟩ ⟨r.val / 64, by omega⟩

/-- The masked scores. -/
theorem scores_at {V0 : Val} {A : Args} (H : Reads V0 A) (h : Fin 8) (r j : Fin 2048) :
    res_main_v39_0 V0 (ix3 h r j) = if Seen r j then (A.sc h r j : EReal) else ⊥ := by
  pointwise [res_main_v39_0]
  rw [mask_at]
  simp only [qn_at H, kn_at H, kp_at H, qp_at H, scale_coe, ← EReal.coe_mul, coe_sum, ← EReal.coe_add]
  have e : ∑ d : Fin 64, A.kp j ⟨d.val, by omega⟩ * A.qp h r ⟨d.val, by omega⟩ = ∑ d, A.qp h r d * A.kp j d := by
    rw [← sum_upto (n := 64) (by norm_num) (fun d : Fin 128 => A.qp h r d * A.kp j d) fun d hd => by
      rw [Args.qp, dif_neg (by omega), dif_neg hd, zero_mul]]
    exact Finset.sum_congr rfl fun d _ => mul_comm _ _
  rw [e, A.sum_qp]
  split
  · rfl
  · exact ofBits_ninf

theorem exp_read (s : FVec Ideal S8x2048x2048 .f32) (t : FVec Ideal S8x2048 .f32) (h : Fin 8) (r j : Fin 2048) :
    (Host.exp (subf s (broadcastInDim S8x2048x2048 ![0, 1, 2] bcast_S8x2048x1_S8x2048x2048_0_1_2
      (broadcastInDim S8x2048x1 ![0, 1] bcast_S8x2048_S8x2048x1_0_1
        (maximumf (broadcastInDim S8x2048 ![] bcast_S_S8x2048 (constant S_ .f32 0xFF800000#32)) t)))) : FVec Ideal S8x2048x2048 .f32) (ix3 h r j)
      = Ideal.exp ((s (ix3 h r j) : EReal) - (t (ix2 h r) : EReal)) := by
  pointwise
  rw [ofBits_ninf, max_eq_right bot_le]

/-- The greatest score of a row, -/
def top (V0 : Val) (h : Fin 8) (r : Fin 2048) : ℝ := (res_main_v40 V0 (ix2 h r) : EReal).toReal

section
variable {V0 : Val} {A : Args} (H : Reads V0 A) (h : Fin 8)
include H

/-- which is real. -/
theorem max_at (r : Fin 2048) : res_main_v40 V0 (ix2 h r) = (top V0 h r : EReal) := by
  have hM : ∃ M : ℝ, res_main_v40 V0 (ix2 h r) = (M : EReal) := by
    unfold res_main_v40
    clean_types
    pointwise
    simp only [scores_at H, ofBits_ninf]
    exact max_real _ (fun j => by split <;> simp) r (A.sc h r r) (if_pos (show Seen r r from le_refl _))
  obtain ⟨M, hM⟩ := hM
  unfold top
  rw [hM]
  rfl

/-- The exponentials, -/
theorem exp_at (r j : Fin 2048) : res_main_v60 V0 (ix3 h r j) = (A.ex h r (top V0 h r) j : EReal) := by
  refine (exp_read (res_main_v39_0 V0) (res_main_v40 V0) h r j).trans ?_
  rw [scores_at H, max_at H]
  unfold Args.ex
  split
  · rw [← EReal.coe_sub, Ideal.exp_coe]
  · rw [EReal.bot_sub, Ideal.exp_bot]
    rfl

/-- and their sum over a row. -/
theorem tot_at (r : Fin 2048) : res_main_v62 V0 (ix3 h r 0) = (A.tot h r (top V0 h r) : EReal) := by
  unfold res_main_v62
  clean_types
  pointwise
  simp only [exp_at H, coe_sum]
  rfl

end

end Cert.ReferenceIdeal.Attn
-- ==== Proof.Result.lean ====
/- The results of the reference, entry by entry, as real numbers. -/
module

public import proofs.«01_k».proof.Proof.Scores

@[expose] public section

set_option maxRecDepth 16384

noncomputable section

namespace Cert.ReferenceIdeal.Attn

open Idealize.ShloMosaic Idealize.ShloMosaic.StableHlo
open Idealize.SL.Sem
open Cert.Attn Cert.ReferenceIdeal Cert.ReferenceIdeal.Gen Cert.ReferenceIdeal.Value

/-- A quotient of reals. -/
theorem div_real (x : ℝ) {y : ℝ} (hy : y ≠ 0) : Ideal.div (x : EReal) (y : EReal) = ((x / y : ℝ) : EReal) := by
  rw [Ideal.div_coe hy, ← EReal.coe_mul, mul_one_div]

theorem add_neg_mul (a b c d : ℝ) : a * c + -b * d = a * c - b * d := by ring

variable {V0 : Valuation τ sig (Elt Ideal)} {A : Args} (H : Reads V0 A) (h : Fin 8)
include H

theorem p_at (r j : Fin 2048) : res_main_v64 V0 (ix3 h r j) = (A.p h r j : EReal) := by
  pointwise [res_main_v64]
  rw [exp_at H, tot_at H, div_real _ (A.tot_pos h r _).ne', A.ex_div]

theorem dp_at (r j : Fin 2048) : res_main_v73 V0 (ix3 h r j) = (A.dp h r j : EReal) := by
  pointwise [res_main_v73, res_main_v72]
  simp only [v_at H, H.go, ← EReal.coe_mul, coe_sum]
  rfl

theorem ds_at (r j : Fin 2048) : res_main_v90 V0 (ix3 h r j) = (A.ds h r j : EReal) := by
  have hT := (A.tot_pos h r (top V0 h r)).ne'
  unfold res_main_v90
  clean_types
  pointwise
  simp only [mask_at, exp_at H, tot_at H, dp_at H]
  simp only [show (1 : EReal) = ((1 : ℝ) : EReal) from rfl, div_real _ hT, div_real _ (mul_ne_zero hT hT), ← EReal.coe_mul, coe_sum,
    ← EReal.coe_neg, ← EReal.coe_add, scale_coe, Finset.univ_unique, Finset.sum_singleton]
  split
  · exact congrArg Real.toEReal (A.ds_ex h r j (top V0 h r))
  · rename_i hs
    rw [Args.ds, Args.p, if_neg hs, zero_mul]
    rfl

theorem dkv_at (j l : Fin 2048) : val3 V0 (Proc.devRef .tc main_v121) (ix2 j l) = (A.dkv j l : EReal) := by
  rw [val3_main_v121]
  pointwise [res_main_v72]
  simp only [ds_at H, qn_at H, p_at H, H.go, ← EReal.coe_mul, coe_sum, ← EReal.coe_neg, ← EReal.coe_add]
  unfold Args.dkv
  split_ifs <;> first | omega | skip
  · rw [add_zero]
    rfl
  · rw [zero_add]
    refine congrArg Real.toEReal (Finset.sum_congr rfl fun k _ => ?_)
    exact mul_comm _ _

theorem dkp_at (j : Fin 2048) (d : Fin 128) : val3 V0 (Proc.devRef .tc main_v98) (ix2 j d) = (A.dkp j d : EReal) := by
  rw [val3_main_v98]
  pointwise [res_main_v91]
  simp only [ds_at H, qp_at H, ← EReal.coe_mul, coe_sum, ← EReal.coe_neg, ← EReal.coe_add]
  unfold Args.dkp
  split
  · rw [Finset.sum_comm]
  · rename_i hd
    refine congrArg Real.toEReal (Finset.sum_eq_zero fun h _ => Finset.sum_eq_zero fun r _ => ?_).symm
    rw [Args.qp, dif_neg (by omega), dif_neg hd, mul_zero]

theorem u_at (r : Fin 2048) (d : Fin 64) : res_main_v92 V0 (ix3 r h d) = (A.u h r ⟨d.val, by omega⟩ : EReal) := by
  pointwise [res_main_v92, res_main_v91]
  simp only [ds_at H, kp_at H, ← EReal.coe_mul, coe_sum, ← EReal.coe_neg, ← EReal.coe_add]
  rfl

theorem dq_at (r l : Fin 2048) : val3 V0 (Proc.devRef .tc main_v122) (ix2 r l) = (A.dq r l : EReal) := by
  rw [val3_main_v122]
  pointwise [res_main_v101, res_main_v102, res_main_v8, res_main_v9]
  simp only [ds_at H, kn_at H, u_at H, H.cos, H.sin, ← EReal.coe_mul, coe_sum, ← EReal.coe_neg, ← EReal.coe_add]
  have hl : l.val / 256 < 8 := by omega
  unfold Args.dq Args.dqx
  by_cases hd : l.val % 256 < 128
  · have hd' : ¬128 ≤ l.val % 256 := by omega
    simp only [eq_true hl, eq_true hd, eq_false hd', _root_.true_and, _root_.false_and, dite_true, dite_false]
    exact zero_add (_ : EReal)
  · have hd' : 128 ≤ l.val % 256 := by omega
    simp only [eq_true hl, eq_false hd, eq_true hd', _root_.true_and, _root_.and_false, dite_false]
    refine (add_zero (_ : EReal)).trans ?_
    by_cases h2 : l.val % 256 - 128 < 64
    · simp only [eq_true h2, dite_true]
      by_cases h1 : l.val % 256 - 128 < 32
      · simp only [eq_true h1, dite_true]
        exact congrArg Real.toEReal (add_comm _ _)
      · have e : 32 + (l.val % 256 - 128 - 32) = l.val % 256 - 128 := by omega
        simp only [eq_false h1, dite_false, e]
        exact congrArg Real.toEReal (add_neg_mul _ _ _ _)
    · have h1 : ¬l.val % 256 - 128 < 32 := by omega
      simp only [eq_false h1, eq_false h2, dite_false]
      rfl

end Cert.ReferenceIdeal.Attn
-- ==== Proof.Before.lean ====
/- What the host code before the launch leaves: the same scores and statistics as the reference's. -/
module

public import proofs.«01_k».proof.Proof.Gen.KernelIdeal.Frame
public import proofs.«01_k».proof.Proof.Result
public import Idealize.ShloMosaic.Lib.Claim

@[expose] public section

set_option maxRecDepth 16384

noncomputable section

namespace Cert.KernelIdeal.Attn

open Idealize.ShloMosaic Idealize.ShloMosaic.TcCoe Idealize.ShloMosaic.Tactic Idealize.ShloMosaic.StableHlo
open Idealize.SL.Sem
open Cert.Attn Cert.KernelIdeal Cert.KernelIdeal.Gen
open Cert.ReferenceIdeal.Value (res_main_v6 res_main_v24 res_main_v25 res_main_v22 res_main_v33 res_main_v39_1 res_main_v39_0
  res_main_v40 res_main_v60 res_main_v62 res_main_v64 res_main_v4)

local notation "Val" => Valuation τ sig (Elt Ideal)
local notation "RefVal" => Valuation Cert.ReferenceIdeal.τ Cert.ReferenceIdeal.sig (Elt Ideal)

/-- The reference finds the kernel's arguments. -/
structure Same (σ : Val) (V0 : RefVal) : Prop where
  q : σ (Proc.devRef .tc main_arg0) = V0 (Proc.devRef .tc Cert.ReferenceIdeal.main_arg0)
  kv : σ (Proc.devRef .tc main_arg1) = V0 (Proc.devRef .tc Cert.ReferenceIdeal.main_arg1)
  kp : σ (Proc.devRef .tc main_arg2) = V0 (Proc.devRef .tc Cert.ReferenceIdeal.main_arg2)
  cos : σ (Proc.devRef .tc main_arg3) = V0 (Proc.devRef .tc Cert.ReferenceIdeal.main_arg3)
  sin : σ (Proc.devRef .tc main_arg4) = V0 (Proc.devRef .tc Cert.ReferenceIdeal.main_arg4)
  go : σ (Proc.devRef .tc main_arg5) = V0 (Proc.devRef .tc Cert.ReferenceIdeal.main_arg5)

variable {σ : Val} {V0 : RefVal}

/-- The scores before the mask. -/
def raw (V0 : RefVal) : FVec Ideal S8x2048x2048 .f32 :=
  mulf (addf (Host.dotGeneral (φ₁ := .f32) (φ₂ := .f32) dot_S2048x8x128_S2048x8x128_S8x2048x2048_2_2_0_0_1_1 none (res_main_v6 V0) (res_main_v24 V0))
    (transpose S8x2048x2048 [2, 1, 0]
      (Host.dotGeneral (φ₁ := .f32) (φ₂ := .f32) dot_S2048x64_S2048x8x64_S2048x2048x8_1_2_0_01_n_n none (res_main_v25 V0) (res_main_v22 V0))
      transposes_S2048x2048x8_S8x2048x2048_2_1_0))
    (broadcastInDim S8x2048x2048 ![] bcast_S_S8x2048x2048 (constant S_ .f32 0x3D93CD3A#32))

theorem raw_eq (S : Same σ V0) : after hostOps0 σ (Proc.devRef .tc main_v28) = raw V0 := by
  simp only [hostOps0]
  after_results_simp
  after_results_loop
  obtain ⟨hq, hkv, hkp, hcos, hsin, _⟩ := S
  generalize σ (Proc.devRef .tc main_arg0) = a at hq ⊢
  generalize σ (Proc.devRef .tc main_arg1) = b at hkv ⊢
  generalize σ (Proc.devRef .tc main_arg2) = d at hkp ⊢
  generalize σ (Proc.devRef .tc main_arg3) = e at hcos ⊢
  generalize σ (Proc.devRef .tc main_arg4) = f at hsin ⊢
  subst hq hkv hkp hcos hsin
  rfl

/-- The chunks of 64 of the positions. -/
theorem chunk_eq (hi : σ (Proc.devRef .tc main_v29) = iotaInDim S2048 32 0) (hc : σ (Proc.devRef .tc main_c) = constantI S_ 32 64#32) :
    after hostOps0_1 σ (Proc.devRef .tc main_v30) = res_main_v33 V0 := by
  simp only [hostOps0_1]
  after_results_simp
  rw [hi, hc]
  rfl

/-- The masked scores. -/
theorem masked_eq (hk : σ (Proc.devRef .tc main_v30) = res_main_v33 V0) (hr : σ (Proc.devRef .tc main_v28) = raw V0) :
    after hostOps0_3 (after hostOps0_2 σ) (Proc.devRef .tc main_v36) = res_main_v39_0 V0 := by
  simp only [hostOps0_2, hostOps0_3]
  after_results_simp
  rw [hk, hr]
  rfl

/-- A maximum with minus infinity changes nothing. -/
theorem max_ninf (X : FVec Ideal S8x2048 .f32) :
    (maximumf (broadcastInDim S8x2048 ![] Cert.ReferenceIdeal.Gen.bcast_S_S8x2048 (constant S_ .f32 0xFF800000#32)) X : FVec Ideal S8x2048 .f32) = X := by
  funext y
  rw [eq_ix2 y]
  pointwise
  rw [ofBits_ninf]
  exact max_bot_left _

/-- The exponentials, with the largest score of the row taken off first. -/
theorem exp_eq : (Host.exp (subf (res_main_v39_0 V0) (broadcastInDim S8x2048x2048 ![0, 1, 2] bcast_S8x2048x1_S8x2048x2048_0_1_2
      (broadcastInDim S8x2048x1 ![0, 1] bcast_S8x2048_S8x2048x1_0_1 (res_main_v40 V0)))) : FVec Ideal S8x2048x2048 .f32) = res_main_v60 V0 := by
  unfold res_main_v60
  rw [max_ninf]

/-- The logarithm of the sum of exponentials of each row. -/
def lse (V0 : RefVal) : FVec Ideal S8x2048x1 .f32 :=
  addf (broadcastInDim S8x2048x1 ![0, 1] bcast_S8x2048_S8x2048x1_0_1 (res_main_v40 V0)) (Host.log (res_main_v62 V0))

theorem lse_eq (h : σ (Proc.devRef .tc main_v36) = res_main_v39_0 V0) : after hostOps0_4 σ (Proc.devRef .tc main_v45) = lse V0 := by
  simp only [hostOps0_4]
  after_results_simp
  after_results_loop
  rw [h]
  unfold lse res_main_v62
  rw [← exp_eq]
  rfl

/-- What the attention puts out. -/
def out (V0 : RefVal) (kv : FVec Ideal S2048x2048 .f32) : FVec Ideal S2048x1024 .bf16 :=
  truncf .bf16 (shapeCast S2048x1024 (transpose S2048x8x128 [2, 0, 1]
    (Host.dotGeneral (φ₁ := .f32) (φ₂ := .f32) dot_S2048x8x128_S8x2048x2048_S8x128x2048_0_2_2_1_1_0 none
      (extractStridedSlice S2048x8x128 ![0, 0, 128] (shapeCast S2048x8x256 kv shapeCasts_S2048x2048_S2048x8x256) slices_S2048x8x256_S2048x8x128_0_0_128) (res_main_v64 V0))
    transposes_S8x128x2048_S2048x8x128_2_0_1) shapeCasts_S2048x8x128_S2048x1024) bitsLt_bf16_f32

theorem out_eq (h : σ (Proc.devRef .tc main_v36) = res_main_v39_0 V0) :
    after hostOps0_4 σ (Proc.devRef .tc main_v53) = out V0 (σ (Proc.devRef .tc main_v0)) := by
  simp only [hostOps0_4]
  after_results_simp
  after_results_loop
  rw [h]
  unfold out res_main_v64 res_main_v62
  rw [← exp_eq]
  rfl

/-- The host code before the launch, in its five stretches. -/
def ran (σ : Val) : Val := after hostOps0_4 (after hostOps0_3 (after hostOps0_2 (after hostOps0_1 (after hostOps0 σ))))

theorem keep_v28' : after hostOps0_1 σ (Proc.devRef .tc main_v28) = σ (Proc.devRef .tc main_v28) := by
  simp only [hostOps0_1]
  after_results_simp

theorem keep_v0 : after hostOps0_3 (after hostOps0_2 (after hostOps0_1 σ)) (Proc.devRef .tc main_v0) = σ (Proc.devRef .tc main_v0) := by
  simp only [hostOps0_1, hostOps0_2, hostOps0_3]
  after_results_simp

theorem keep_cos : after hostOps0_3 (after hostOps0_2 (after hostOps0_1 (after hostOps0 σ))) (Proc.devRef .tc main_arg3)
    = σ (Proc.devRef .tc main_arg3) := by
  simp only [hostOps0, hostOps0_1, hostOps0_2, hostOps0_3]
  after_results_simp

theorem keep_sin : after hostOps0_3 (after hostOps0_2 (after hostOps0_1 (after hostOps0 σ))) (Proc.devRef .tc main_arg4)
    = σ (Proc.devRef .tc main_arg4) := by
  simp only [hostOps0, hostOps0_1, hostOps0_2, hostOps0_3]
  after_results_simp

theorem kv_eq : after hostOps0 σ (Proc.devRef .tc main_v0)
    = (extf .f32 (σ (Proc.devRef .tc main_arg1) : FVec Ideal S2048x2048 .bf16) bitsLt_bf16_f32 : FVec Ideal S2048x2048 .f32) := by
  simp only [hostOps0]
  after_results_simp

theorem pos_eq : after hostOps0 σ (Proc.devRef .tc main_v29) = iotaInDim S2048 32 0 := by
  simp only [hostOps0]
  after_results_simp

theorem width_eq : after hostOps0 σ (Proc.devRef .tc main_c) = constantI S_ 32 64#32 := by
  simp only [hostOps0]
  after_results_simp

/-- The rotary tables. -/
def tabs (a b : FVec Ideal S2048x32 .f32) : FVec Ideal S2048x128 .f32 :=
  concatenate S2048x128 1 [⟨S2048x32, a⟩, ⟨S2048x32, b⟩, ⟨S2048x64, broadcastInDim S2048x64 ![] bcast_S_S2048x64 (constant S_ .f32 0x00000000#32)⟩]
    concatenates_S2048x32_S2048x32_S2048x64_S2048x128_d1

/-- The tables are laid out by the last four operations, -/
theorem late (σ : Val) : after hostOps0_4 σ = after (hostOps0_4.drop 23) (after (hostOps0_4.take 23) σ) := by
  rw [← after_append]
  rfl

theorem late_c (ρ : Val) (hz : ρ (Proc.devRef .tc main_v55) = (broadcastInDim S2048x64 ![] bcast_S_S2048x64 (constant S_ .f32 0x00000000#32) : FVec Ideal S2048x64 .f32)) :
    after (hostOps0_4.drop 23) ρ (Proc.devRef .tc main_v56) = tabs (ρ (Proc.devRef .tc main_arg3)) (ρ (Proc.devRef .tc main_arg3)) := by
  unfold tabs
  rw [← hz]
  simp only [hostOps0_4, List.drop]
  rw [after_cons, after_cons, after_cons, after_cons, after_nil, nary_result_ne, nary_result_ne, unary_result_ne, nary_result]
  · rfl
  all_goals decide

theorem late_s1 (ρ : Val) (hz : ρ (Proc.devRef .tc main_v55) = (broadcastInDim S2048x64 ![] bcast_S_S2048x64 (constant S_ .f32 0x00000000#32) : FVec Ideal S2048x64 .f32)) :
    after (hostOps0_4.drop 23) ρ (Proc.devRef .tc main_v58) = tabs (Host.negf (ρ (Proc.devRef .tc main_arg4) : FVec Ideal S2048x32 .f32)) (ρ (Proc.devRef .tc main_v54)) := by
  unfold tabs
  rw [← hz]
  simp only [hostOps0_4, List.drop]
  rw [after_cons, after_cons, after_cons, after_cons, after_nil, nary_result_ne, nary_result]
  · rfl
  all_goals decide

theorem late_s2 (ρ : Val) (hz : ρ (Proc.devRef .tc main_v55) = (broadcastInDim S2048x64 ![] bcast_S_S2048x64 (constant S_ .f32 0x00000000#32) : FVec Ideal S2048x64 .f32)) :
    after (hostOps0_4.drop 23) ρ (Proc.devRef .tc main_v59) = tabs (ρ (Proc.devRef .tc main_v54)) (ρ (Proc.devRef .tc main_arg4)) := by
  unfold tabs
  rw [← hz]
  simp only [hostOps0_4, List.drop]
  rw [after_cons, after_cons, after_cons, after_cons, after_nil, nary_result]
  · rfl

/-- from these. -/
theorem early_v55 : after (hostOps0_4.take 23) σ (Proc.devRef .tc main_v55) = (broadcastInDim S2048x64 ![] bcast_S_S2048x64 (constant S_ .f32 0x00000000#32) : FVec Ideal S2048x64 .f32) := by
  simp only [hostOps0_4, List.take]
  after_results_simp

theorem early_v54 : after (hostOps0_4.take 23) σ (Proc.devRef .tc main_v54) = (broadcastInDim S2048x32 ![] bcast_S_S2048x32 (constant S_ .f32 0x00000000#32) : FVec Ideal S2048x32 .f32) := by
  simp only [hostOps0_4, List.take]
  after_results_simp

theorem early_cos : after (hostOps0_4.take 23) σ (Proc.devRef .tc main_arg3) = σ (Proc.devRef .tc main_arg3) := by
  simp only [hostOps0_4, List.take]
  after_results_simp

theorem early_sin : after (hostOps0_4.take 23) σ (Proc.devRef .tc main_arg4) = σ (Proc.devRef .tc main_arg4) := by
  simp only [hostOps0_4, List.take]
  after_results_simp

theorem ran_c : ran σ (Proc.devRef .tc main_v56) = tabs (σ (Proc.devRef .tc main_arg3)) (σ (Proc.devRef .tc main_arg3)) := by
  unfold ran
  rw [late, late_c _ early_v55, early_cos, keep_cos]

theorem ran_s1 : ran σ (Proc.devRef .tc main_v58) = tabs (Host.negf (σ (Proc.devRef .tc main_arg4) : FVec Ideal S2048x32 .f32))
    (broadcastInDim S2048x32 ![] bcast_S_S2048x32 (constant S_ .f32 0x00000000#32)) := by
  unfold ran
  rw [late, late_s1 _ early_v55, early_sin, early_v54, keep_sin]

theorem ran_s2 : ran σ (Proc.devRef .tc main_v59) = tabs (broadcastInDim S2048x32 ![] bcast_S_S2048x32 (constant S_ .f32 0x00000000#32))
    (σ (Proc.devRef .tc main_arg4)) := by
  unfold ran
  rw [late, late_s2 _ early_v55, early_v54, early_sin, keep_sin]

section
variable (S : Same σ V0)
include S

theorem scores_eq : after hostOps0_3 (after hostOps0_2 (after hostOps0_1 (after hostOps0 σ))) (Proc.devRef .tc main_v36) = res_main_v39_0 V0 :=
  masked_eq (chunk_eq pos_eq width_eq) (keep_v28'.trans (raw_eq S))

theorem ran_lse : ran σ (Proc.devRef .tc main_v45) = lse V0 := lse_eq (scores_eq S)

theorem ran_out : ran σ (Proc.devRef .tc main_v53) = out V0 (extf .f32 (σ (Proc.devRef .tc main_arg1) : FVec Ideal S2048x2048 .bf16) bitsLt_bf16_f32) :=
  (out_eq (scores_eq S)).trans (congrArg (out V0) (keep_v0.trans kv_eq))

end

/-- The launch runs on these. -/
theorem V_eq (m : (ℓ : Loc nD τ sig) → Buf (Elt Ideal) ℓ) (c : Dev nD) (b : Ref sig .tc) :
    V m c b = ran (fun b => m (c, b)) (Proc.devRef .tc b) := by
  unfold V ran
  simp only [List.flatten_cons, List.flatten_nil, List.append_nil, after_append]

end Cert.KernelIdeal.Attn
-- ==== Proof.Host.lean ====
/- What the host code hands to the launch, and the blocks the launch reads, as real numbers. -/
module

public import proofs.«01_k».proof.Proof.Leg
public import proofs.«01_k».proof.Proof.Tile
public import proofs.«01_k».proof.Proof.Before
public import Idealize.ShloMosaic.Lib.Pipeline.ValueKit.Point

@[expose] public section

set_option maxRecDepth 16384

noncomputable section

namespace Cert.KernelIdeal.Attn

open Idealize.ShloMosaic Idealize.ShloMosaic.TcCoe Idealize.ShloMosaic.Tactic
open Idealize.SL.Sem
open Cert.Attn Cert.KernelIdeal Cert.KernelIdeal.Gen
open Cert.ReferenceIdeal.Value (res_main_v40 res_main_v62 res_main_v64)
open Cert.ReferenceIdeal.Attn (Reads top max_at tot_at p_at)

local notation "Val" => Valuation τ sig (Elt Ideal)
local notation "RefVal" => Valuation Cert.ReferenceIdeal.τ Cert.ReferenceIdeal.sig (Elt Ideal)

section
variable {V0 : RefVal} {A : Args} (H : Reads V0 A)

theorem lse_read (a : FVec Ideal S8x2048 .f32) (b : FVec Ideal S8x2048x1 .f32) (h : Fin 8) (r : Fin 2048) :
    (addf (broadcastInDim S8x2048x1 ![0, 1] bcast_S8x2048_S8x2048x1_0_1 a) (Host.log b) : FVec Ideal S8x2048x1 .f32) (ix3 h r 0)
      = (a (ix2 h r) : EReal) + Ideal.log (b (ix3 h r 0)) := by
  pointwise

include H in
/-- The logarithm of each row's sum, -/
theorem lse_at (h : Fin 8) (r : Fin 2048) : lse V0 (ix3 h r 0) = (Real.log (A.z h r) : EReal) := by
  refine (lse_read (res_main_v40 V0) (res_main_v62 V0) h r).trans ?_
  rw [max_at H, tot_at H, Ideal.log_coe, if_neg (not_le.mpr (A.tot_pos h r _)), ← EReal.coe_add, A.log_tot]

theorem out_read (a : FVec Ideal S2048x2048 .bf16) (p : FVec Ideal S8x2048x2048 .f32) (h : Fin 8) (r : Fin 2048) (d : Fin 128) :
    (truncf .bf16 (shapeCast S2048x1024 (transpose S2048x8x128 [2, 0, 1]
      (Host.dotGeneral (φ₁ := .f32) (φ₂ := .f32) dot_S2048x8x128_S8x2048x2048_S8x128x2048_0_2_2_1_1_0 none
        (extractStridedSlice S2048x8x128 ![0, 0, 128] (shapeCast S2048x8x256 (extf .f32 a bitsLt_bf16_f32 : FVec Ideal S2048x2048 .f32) shapeCasts_S2048x2048_S2048x8x256)
          slices_S2048x8x256_S2048x8x128_0_0_128) p)
      transposes_S8x128x2048_S2048x8x128_2_0_1) shapeCasts_S2048x8x128_S2048x1024) bitsLt_bf16_f32 : FVec Ideal S2048x1024 .bf16)
        (ix2 r ⟨h.val * 128 + d.val, by omega⟩)
      = ∑ j : Fin 2048, (a (ix2 j ⟨h.val * 256 + (128 + d.val), by omega⟩) : EReal) * p (ix3 h r j) := by
  pointwise

include H in
/-- what the attention puts out, -/
theorem out_at (a : FVec Ideal S2048x2048 .bf16) (ha : ∀ j l, a (ix2 j l) = (A.kv j l : EReal)) (h : Fin 8) (r : Fin 2048) (d : Fin 128) :
    out V0 (extf .f32 a bitsLt_bf16_f32) (ix2 r ⟨h.val * 128 + d.val, by omega⟩) = (A.o h r d : EReal) := by
  refine (out_read a (res_main_v64 V0) h r d).trans ?_
  simp only [ha, p_at H, ← EReal.coe_mul, coe_sum]
  exact congrArg Real.toEReal (Finset.sum_congr rfl fun j _ => mul_comm _ _)

end

/-- and the rotary tables. -/
theorem tabs_at (a b : FVec Ideal S2048x32 .f32) (r : Fin 2048) (d : Fin 128) :
    tabs a b (ix2 r d) = if hd : d.val < 32 then a (ix2 r ⟨d.val, hd⟩)
      else if hd' : d.val < 64 then b (ix2 r ⟨d.val - 32, by omega⟩) else (0 : EReal) := by
  unfold tabs
  pointwise
  by_cases h : d.val < 32
  · simp only [h, dite_true]
  · simp only [h, dite_false]
    by_cases h' : d.val < 64
    · have h'' : d.val - 32 < 32 := by omega
      simp only [h', h'', dite_true]
    · have h'' : ¬ d.val - 32 < 32 := by omega
      simp only [h', h'', dite_false]

theorem neg_at (a : FVec Ideal S2048x32 .f32) (r : Fin 2048) (d : Fin 32) : (Host.negf a : FVec Ideal S2048x32 .f32) (ix2 r d) = -(a (ix2 r d) : EReal) := by
  pointwise

theorem zero_at (r : Fin 2048) (d : Fin 32) :
    (broadcastInDim S2048x32 ![] bcast_S_S2048x32 (constant S_ .f32 0x00000000#32) : FVec Ideal S2048x32 .f32) (ix2 r d) = (0 : EReal) := by
  pointwise

section
variable (m : (ℓ : Loc nD τ sig) → Buf (Elt Ideal) ℓ) (c : Dev nD)

/-- Which block each window reads or writes at a point. -/
theorem idx : ∀ t : Fin cfg0.N,
    win0_0.index t = ![t.val % 8, t.val / 8] ∧ win0_1.index t = ![0, t.val / 8] ∧ win0_2.index t = ![0, 0]
    ∧ win0_3.index t = ![t.val % 8, t.val / 8] ∧ win0_4.index t = ![t.val / 8, t.val % 8, 0]
    ∧ win0_5.index t = ![t.val % 8, t.val / 8] ∧ win0_6.index t = ![t.val % 8, 0] ∧ win0_7.index t = ![t.val % 8, 0]
    ∧ win0_8.index t = ![t.val % 8, 0] ∧ win0_9.index t = ![t.val % 8, t.val / 8] ∧ win0_10.index t = ![0, t.val / 8]
    ∧ win0_11.index t = ![0, 0] := by
  decide +kernel

/-- The head and the tile of a point. -/
def head (t : Fin cfg0.N) : Fin 8 := ⟨t.val / 8, by have := t.isLt; have hN : cfg0.N = 64 := N_0; omega⟩
def tile (t : Fin cfg0.N) : Fin 8 := ⟨t.val % 8, by omega⟩

theorem blk_q (t : Fin cfg0.N) (r : Fin 256) (d : Fin 256) :
    iblk m c 0 t (ix2 r d) = V m c main_arg0 (ix2 (row (tile t) r) ⟨(head t).val * 256 + d.val, by omega⟩) := by
  blk_simp [iblk, idx t]
  generalize V m c main_arg0 = X
  blk_ext [idx t, row, tile, head]

theorem blk_kv (t : Fin cfg0.N) (j : Fin 2048) (d : Fin 256) :
    iblk m c 1 t (ix2 j d) = V m c main_arg1 (ix2 j ⟨(head t).val * 256 + d.val, by omega⟩) := by
  blk_simp [iblk, idx t]
  generalize V m c main_arg1 = X
  blk_ext [idx t, row, tile, head]

theorem blk_kp (t : Fin cfg0.N) (j : Fin 2048) (d : Fin 128) :
    iblk m c 2 t (ix2 j d) = V m c main_arg2 (ix2 j d) := by
  blk_simp [iblk, idx t]
  generalize V m c main_arg2 = X
  blk_ext [idx t, row, tile, head]

theorem blk_o (t : Fin cfg0.N) (r : Fin 256) (d : Fin 128) :
    iblk m c 3 t (ix2 r d) = V m c main_v53 (ix2 (row (tile t) r) ⟨(head t).val * 128 + d.val, by omega⟩) := by
  blk_simp [iblk, idx t]
  generalize V m c main_v53 = X
  blk_ext [idx t, row, tile, head]

theorem blk_lse (t : Fin cfg0.N) (r : Fin 256) :
    iblk m c 4 t (ix3 0 r 0) = V m c main_v45 (ix3 (head t) (row (tile t) r) 0) := by
  have h : ∀ X : FVec Ideal S8x2048x1 .f32, ((cfg0.win 4).blk t).view.read (Elt Ideal) X (ix3 0 r 0) = X (ix3 (head t) (row (tile t) r) 0) := by
    intro X
    blk_ext [idx t, row, tile, head]
  exact h _

theorem blk_go (t : Fin cfg0.N) (r : Fin 256) (d : Fin 128) :
    iblk m c 5 t (ix2 r d) = V m c main_arg5 (ix2 (row (tile t) r) ⟨(head t).val * 128 + d.val, by omega⟩) := by
  blk_simp [iblk, idx t]
  generalize V m c main_arg5 = X
  blk_ext [idx t, row, tile, head]

theorem blk_c (t : Fin cfg0.N) (r : Fin 256) (d : Fin 128) :
    iblk m c 6 t (ix2 r d) = V m c main_v56 (ix2 (row (tile t) r) d) := by
  blk_simp [iblk, idx t]
  generalize V m c main_v56 = X
  blk_ext [idx t, row, tile, head]

theorem blk_s1 (t : Fin cfg0.N) (r : Fin 256) (d : Fin 128) :
    iblk m c 7 t (ix2 r d) = V m c main_v58 (ix2 (row (tile t) r) d) := by
  blk_simp [iblk, idx t]
  generalize V m c main_v58 = X
  blk_ext [idx t, row, tile, head]

theorem blk_s2 (t : Fin cfg0.N) (r : Fin 256) (d : Fin 128) :
    iblk m c 8 t (ix2 r d) = V m c main_v59 (ix2 (row (tile t) r) d) := by
  blk_simp [iblk, idx t]
  generalize V m c main_v59 = X
  blk_ext [idx t, row, tile, head]

end

end Cert.KernelIdeal.Attn
-- ==== Proof.Held.lean ====
/- The blocks the launch reads are those of the arguments. -/
module

public import proofs.«01_k».proof.Proof.Host

@[expose] public section

set_option maxRecDepth 16384

noncomputable section

namespace Cert.KernelIdeal.Attn

open Idealize.ShloMosaic Idealize.ShloMosaic.TcCoe Idealize.ShloMosaic.Tactic
open Idealize.SL.Sem
open Cert.Attn Cert.KernelIdeal Cert.KernelIdeal.Gen
open Cert.ReferenceIdeal.Value (res_main_v40 res_main_v62 res_main_v64)
open Cert.ReferenceIdeal.Attn (Reads top max_at tot_at p_at)

local notation "RefVal" => Valuation Cert.ReferenceIdeal.τ Cert.ReferenceIdeal.sig (Elt Ideal)

section
variable (m : (ℓ : Loc nD τ sig) → Buf (Elt Ideal) ℓ) (c : Dev nD)

variable {V0 : RefVal} {A : Args} (S : Same (fun b => m (c, b)) V0) (H : Reads V0 A) (t : Fin cfg0.N)
include S H

theorem held_q (r d : Fin 256) : iblk m c 0 t (ix2 r d) = (A.q (row (tile t) r) ⟨(head t).val * 256 + d.val, by omega⟩ : EReal) :=
  (blk_q m c t r d).trans ((congrFun ((V_main_arg0 m c).trans S.q) _).trans (H.q _ _))

theorem held_kv (j : Fin 2048) (d : Fin 256) : iblk m c 1 t (ix2 j d) = (A.kv j ⟨(head t).val * 256 + d.val, by omega⟩ : EReal) :=
  (blk_kv m c t j d).trans ((congrFun ((V_main_arg1 m c).trans S.kv) _).trans (H.kv _ _))

theorem held_kp (j : Fin 2048) (d : Fin 128) : iblk m c 2 t (ix2 j d) = (A.kp j d : EReal) :=
  (blk_kp m c t j d).trans ((congrFun ((V_main_arg2 m c).trans S.kp) _).trans (H.kp _ _))

theorem held_o (r : Fin 256) (d : Fin 128) : iblk m c 3 t (ix2 r d) = (A.o (head t) (row (tile t) r) d : EReal) :=
  (blk_o m c t r d).trans ((congrFun ((V_eq m c main_v53).trans (ran_out S)) _).trans
    (out_at H _ (fun j l => (congrFun S.kv _).trans (H.kv j l)) (head t) (row (tile t) r) d))

theorem held_lse (r : Fin 256) : iblk m c 4 t (ix3 0 r 0) = (Real.log (A.z (head t) (row (tile t) r)) : EReal) :=
  (blk_lse m c t r).trans ((congrFun ((V_eq m c main_v45).trans (ran_lse S)) _).trans (lse_at H _ _))

theorem held_go (r : Fin 256) (d : Fin 128) : iblk m c 5 t (ix2 r d) = (A.g (head t) (row (tile t) r) d : EReal) :=
  (blk_go m c t r d).trans ((congrFun ((V_main_arg5 m c).trans S.go) _).trans (H.go _ _))

theorem held_cs (r : Fin 256) (d : Fin 128) : iblk m c 6 t (ix2 r d) = (tabC A (row (tile t) r) d : EReal) := by
  refine (blk_c m c t r d).trans ((congrFun ((V_eq m c main_v56).trans ran_c) _).trans ((tabs_at _ _ _ d).trans ?_))
  unfold tabC
  split
  · exact (congrFun S.cos _).trans (H.cos _ _)
  · split
    · exact (congrFun S.cos _).trans (H.cos _ _)
    · exact EReal.coe_zero.symm

theorem held_s1 (r : Fin 256) (d : Fin 128) : iblk m c 7 t (ix2 r d) = (tabS1 A (row (tile t) r) d : EReal) := by
  refine (blk_s1 m c t r d).trans ((congrFun ((V_eq m c main_v58).trans ran_s1) _).trans ((tabs_at _ _ _ d).trans ?_))
  unfold tabS1
  split
  · refine (neg_at _ _ _).trans ?_
    rw [EReal.coe_neg]
    exact congrArg Neg.neg ((congrFun S.sin _).trans (H.sin _ _))
  · split
    · exact (zero_at _ _).trans EReal.coe_zero.symm
    · exact EReal.coe_zero.symm

theorem held_s2 (r : Fin 256) (d : Fin 128) : iblk m c 8 t (ix2 r d) = (tabS2 A (row (tile t) r) d : EReal) := by
  refine (blk_s2 m c t r d).trans ((congrFun ((V_eq m c main_v59).trans ran_s2) _).trans ((tabs_at _ _ _ d).trans ?_))
  unfold tabS2
  split
  · exact (zero_at _ _).trans EReal.coe_zero.symm
  · split
    · exact (congrFun S.sin _).trans (H.sin _ _)
    · exact EReal.coe_zero.symm

attribute [local irreducible] iblk in
/-- The blocks of a point are the arguments' of its head and tile. -/
theorem blocks : Holds (ins m c t) A (head t) (tile t) :=
  ⟨held_q m c S H t, held_kv m c S H t, held_kp m c S H t, held_o m c S H t, held_lse m c S H t, held_go m c S H t,
    held_cs m c S H t, held_s1 m c S H t, held_s2 m c S H t⟩

end

end Cert.KernelIdeal.Attn
-- ==== Proof.Sum.lean ====
/- The three results, summed over the tiles of a head and over the heads, are the real gradients. -/
module

public import proofs.«01_k».proof.Proof.Held
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic Idealize.ShloMosaic.Pipeline
open Idealize.SL.Sem
open Cert.Attn Cert.KernelIdeal Cert.KernelIdeal.Gen
open Cert.ReferenceIdeal.Attn (Reads)

attribute [local irreducible] dqOf dkvOf dkpOf iblk

local notation "RefVal" => Valuation Cert.ReferenceIdeal.τ Cert.ReferenceIdeal.sig (Elt Ideal)

/-- The rows of the eight tiles are all rows, -/
theorem sum_rows (f : Fin 2048 → ℝ) : ∑ i : Fin 8, ∑ r : Fin 256, f (row i r) = ∑ r, f r := by
  rw [← Fintype.sum_prod_type']
  refine Fintype.sum_equiv (finProdFinEquiv (m := 8) (n := 256)) _ _ fun x => congrArg f (Fin.ext ?_)
  simp only [row, finProdFinEquiv, Equiv.coe_fn_mk]
  omega

/-- and the points of the grid are all heads and tiles. -/
theorem sum_points (f : Fin 8 → Fin 8 → ℝ) :
    ∑ k ∈ Finset.range 64, f ⟨k / 8 % 8, by omega⟩ ⟨k % 8, by omega⟩ = ∑ h, ∑ i, f h i := by
  rw [Finset.sum_range, ← Fintype.sum_prod_type']
  refine (Fintype.sum_equiv (finProdFinEquiv (m := 8) (n := 8)) _ _ fun x => ?_).symm
  simp only [finProdFinEquiv, Equiv.coe_fn_mk]
  congr 1 <;> exact Fin.ext (by simp only []; omega)

theorem upto_eq (t : Fin cfg0.N) : upto t.val = 256 * ((tile t).val + 1) := rfl

section
variable (m : (ℓ : Loc nD τ sig) → Buf (Elt Ideal) ℓ) (c : Dev nD)

/-- A reading `L` of a head's block adds one term per tile, from zero at the head's first tile. -/
theorem dkv_sum (L : Vec Ideal S2048x256 .f32 → EReal) (h0 : L (fun _ => 0) = 0) (f : Fin 8 → Fin 8 → ℝ)
    (hL : ∀ (t : Fin cfg0.N) u, L (dkvOf (ins m c t) (upto t.val) (upto_le t.val) u) = L u + (f (head t) (tile t) : EReal)) :
    ∀ (n : ℕ) (hn : n < cfg0.N), L (dkvAt m c n hn)
      = ((∑ i ∈ Finset.range (n % 8 + 1), f (head ⟨n, hn⟩) ⟨i % 8, by omega⟩ : ℝ) : EReal)
  | 0, hn => by
    refine (hL ⟨0, hn⟩ fun _ => 0).trans ?_
    rw [h0, zero_add]
    simp only [Nat.zero_mod, zero_add, Finset.sum_range_one]
    rfl
  | n + 1, hn => by
    refine (hL ⟨n + 1, hn⟩ _).trans ?_
    by_cases hz : (n + 1) % 8 = 0
    · have ht : tile ⟨n + 1, hn⟩ = ⟨0 % 8, by omega⟩ := Fin.ext hz
      simp only [fresh, if_pos hz]
      rw [h0, zero_add, hz, ht]
      simp only [zero_add, Finset.sum_range_one]
    · have hd : head ⟨n, Nat.lt_of_succ_lt hn⟩ = head ⟨n + 1, hn⟩ := Fin.ext (by simp only [head]; omega)
      have hm : (n + 1) % 8 = n % 8 + 1 := by omega
      have ht : tile ⟨n + 1, hn⟩ = ⟨(n % 8 + 1) % 8, by omega⟩ := Fin.ext (by simp only [tile]; omega)
      simp only [fresh, if_neg hz]
      rw [dkv_sum L h0 f hL n (Nat.lt_of_succ_lt hn), hd, ht, hm, Finset.sum_range_succ _ (n % 8 + 1), EReal.coe_add]

/-- A reading of the position keys' block adds one term per point. -/
theorem dkp_sum (L : Vec Ideal S2048x128 .f32 → EReal) (h0 : L (fun _ => 0) = 0) (f : Fin 8 → Fin 8 → ℝ)
    (hL : ∀ (t : Fin cfg0.N) u, L (dkpOf (ins m c t) (upto t.val) (upto_le t.val) u) = L u + (f (head t) (tile t) : EReal)) :
    ∀ (n : ℕ) (hn : n < cfg0.N), L (dkpAt m c n hn)
      = ((∑ k ∈ Finset.range (n + 1), f ⟨k / 8 % 8, by omega⟩ ⟨k % 8, by omega⟩ : ℝ) : EReal)
  | 0, hn => by
    refine (hL ⟨0, hn⟩ fun _ => 0).trans ?_
    rw [h0, zero_add]
    have hd : head ⟨0, hn⟩ = ⟨0 / 8 % 8, by omega⟩ := Fin.ext (by simp only [head])
    rw [hd]
    simp only [zero_add, Finset.sum_range_one]
    rfl
  | n + 1, hn => by
    refine (hL ⟨n + 1, hn⟩ _).trans ?_
    have hN : cfg0.N = 64 := N_0
    have hd : head ⟨n + 1, hn⟩ = ⟨(n + 1) / 8 % 8, by omega⟩ := Fin.ext (by simp only [head]; omega)
    rw [dkp_sum L h0 f hL n (Nat.lt_of_succ_lt hn), hd, Finset.sum_range_succ _ (n + 1), EReal.coe_add]
    rfl

variable {V0 : RefVal} {A : Args} (S : Same (fun b => m (c, b)) V0) (H : Reads V0 A)
include S H

/-- A point's query gradient, -/
theorem dq_cell (t : Fin cfg0.N) (r l : Fin 256) :
    dqOf (ins m c t) (upto t.val) (upto_le t.val) (ix2 r l)
      = (A.dq (row (tile t) r) ⟨(head t).val * 256 + l.val, by omega⟩ : EReal) := by
  have B := blocks m c S H t
  have e1 : (⟨((head t).val * 256 + l.val) / 256, by omega⟩ : Fin 8) = head t := Fin.ext (by simp only []; omega)
  unfold Args.dq
  split
  case isTrue hd =>
    refine (dq_left B (upto_le t.val) (upto_eq t) r ⟨l.val, by simp only [] at hd; omega⟩).trans ?_
    rw [e1]
    congr 3
    simp only [] at hd ⊢; omega
  case isFalse hd =>
    have hl : l = ⟨128 + (l.val - 128), by simp only [] at hd; omega⟩ := Fin.ext (by simp only [] at hd ⊢; omega)
    rw [e1]
    refine (congrArg (fun l => dqOf (ins m c t) (upto t.val) (upto_le t.val) (ix2 r l)) hl).trans
      ((dq_right B (upto_le t.val) (upto_eq t) r ⟨l.val - 128, by omega⟩).trans ?_)
    congr 3
    simp only [] at hd ⊢; omega

omit S H in
theorem full (t : Fin cfg0.N) (ht : t.val % 8 = 7) (f : Fin 8 → ℝ) :
    ∑ i ∈ Finset.range (t.val % 8 + 1), f ⟨i % 8, by omega⟩ = ∑ i, f i := by
  rw [ht, Finset.sum_range]
  exact Finset.sum_congr rfl fun i _ => congrArg f (Fin.ext (Nat.mod_eq_of_lt i.isLt))

/-- a head's key and value gradient at its last tile, -/
theorem dkn_cell (t : Fin cfg0.N) (ht : t.val % 8 = 7) (j : Fin 2048) (d : Fin 128) :
    left (dkvAt m c t.val t.isLt) j d = (A.dkn (head t) j d : EReal) := by
  refine (dkv_sum m c (fun u => left u j d) rfl (fun h i => ∑ r, A.ds h (row i r) j * A.qn h (row i r) d)
    (fun t u => dkv_left (blocks m c S H t) (upto_le t.val) (upto_eq t) u j d) t.val t.isLt).trans (congrArg Real.toEReal ?_)
  rw [full t ht fun i => ∑ r, A.ds (head t) (row i r) j * A.qn (head t) (row i r) d]
  exact sum_rows fun r => A.ds (head t) r j * A.qn (head t) r d

theorem dv_cell (t : Fin cfg0.N) (ht : t.val % 8 = 7) (j : Fin 2048) (d : Fin 128) :
    right (dkvAt m c t.val t.isLt) j d = (A.dv (head t) j d : EReal) := by
  refine (dkv_sum m c (fun u => right u j d) rfl (fun h i => ∑ r, A.p h (row i r) j * A.g h (row i r) d)
    (fun t u => dkv_right (blocks m c S H t) (upto_le t.val) (upto_eq t) u j d) t.val t.isLt).trans (congrArg Real.toEReal ?_)
  rw [full t ht fun i => ∑ r, A.p (head t) (row i r) j * A.g (head t) (row i r) d]
  exact sum_rows fun r => A.p (head t) r j * A.g (head t) r d

theorem dkv_cell (t : Fin cfg0.N) (ht : t.val % 8 = 7) (j : Fin 2048) (l : Fin 256) :
    dkvAt m c t.val t.isLt (ix2 j l) = (A.dkv j ⟨(head t).val * 256 + l.val, by omega⟩ : EReal) := by
  have e1 : (⟨((head t).val * 256 + l.val) / 256, by omega⟩ : Fin 8) = head t := Fin.ext (by simp only []; omega)
  unfold Args.dkv
  split
  case isTrue hd =>
    refine (dkn_cell m c S H t ht j ⟨l.val, by simp only [] at hd; omega⟩).trans ?_
    rw [e1]
    congr 3
    simp only [] at hd ⊢; omega
  case isFalse hd =>
    have hl : l = ⟨128 + (l.val - 128), by simp only [] at hd; omega⟩ := Fin.ext (by simp only [] at hd ⊢; omega)
    rw [e1]
    refine (congrArg (fun l => dkvAt m c t.val t.isLt (ix2 j l)) hl).trans
      ((dv_cell m c S H t ht j ⟨l.val - 128, by omega⟩).trans ?_)
    congr 3
    simp only [] at hd ⊢; omega

/-- and the position keys' gradient at the last point. -/
theorem dkp_cell (t : Fin cfg0.N) (ht : t.val % 64 = 63) (j : Fin 2048) (d : Fin 128) :
    dkpAt m c t.val t.isLt (ix2 j d) = (A.dkp j d : EReal) := by
  have hN : cfg0.N = 64 := N_0
  have hv : t.val + 1 = 64 := by have := t.isLt; omega
  refine (dkp_sum m c (fun u => u (ix2 j d)) rfl (fun h i => ∑ r, A.ds h (row i r) j * A.qp h (row i r) d)
    (fun t u => dkp_at (blocks m c S H t) (upto_le t.val) (upto_eq t) u j d) t.val t.isLt).trans (congrArg Real.toEReal ?_)
  rw [hv, sum_points fun h i => ∑ r, A.ds h (row i r) j * A.qp h (row i r) d]
  exact Finset.sum_congr rfl fun h _ => sum_rows fun r => A.ds h r j * A.qp h r d

/-- What the launch leaves in its three outputs. -/
theorem out_dq : (dats m 0 c).arrAt 9 cfg0.N = fun y => (A.dq (y 0) (y 1) : EReal) := by
  refine (dats m 0 c).arrAt_eq_of_covers 9 _ (by decide +kernel) fun t hf y => ?_
  rw [after_9]
  have hy : (cfg0.win 9).xinj (cfg0.grid.coords t) y = (ix2 (y 0) (y 1) : S256x256.Idx) := by
    rw [eq_ix2 ((cfg0.win 9).xinj (cfg0.grid.coords t) y : S256x256.Idx)]
  refine ((congrArg (dqOf (ins m c t) (upto t.val) (upto_le t.val)) hy).trans (dq_cell m c S H t (y 0) (y 1))).trans ?_
  have h0 : ((((cfg0.win 9).blk t).view.emb y) 0).val = 256 * (t.val % 8) + (y 0).val := by
    blk_simp [idx t]
    omega
  have h1 : ((((cfg0.win 9).blk t).view.emb y) 1).val = (t.val / 8) * 256 + (y 1).val := by
    blk_simp [idx t]
  exact congrArg₂ (fun a b => ((A.dq a b : ℝ) : EReal)) (Fin.ext h0.symm : _ = (((cfg0.win 9).blk t).view.emb y) 0)
    (Fin.ext h1.symm : _ = (((cfg0.win 9).blk t).view.emb y) 1)

theorem out_dkv : (dats m 0 c).arrAt 10 cfg0.N = fun y => (A.dkv (y 0) (y 1) : EReal) := by
  refine (dats m 0 c).arrAt_eq_of_covers 10 _ (by decide +kernel) fun t hf y => ?_
  rw [after_10]
  have hy : (cfg0.win 10).xinj (cfg0.grid.coords t) y = (ix2 (y 0) (y 1) : S2048x256.Idx) := by
    rw [eq_ix2 ((cfg0.win 10).xinj (cfg0.grid.coords t) y : S2048x256.Idx)]
  refine ((congrArg (dkvAt m c t.val t.isLt) hy).trans (dkv_cell m c S H t ((flush0_10 t).mp hf) (y 0) (y 1))).trans ?_
  have h0 : ((((cfg0.win 10).blk t).view.emb y) 0).val = (y 0).val := by
    blk_simp [idx t]
  have h1 : ((((cfg0.win 10).blk t).view.emb y) 1).val = (t.val / 8) * 256 + (y 1).val := by
    blk_simp [idx t]
  exact congrArg₂ (fun a b => ((A.dkv a b : ℝ) : EReal)) (Fin.ext h0.symm : _ = (((cfg0.win 10).blk t).view.emb y) 0)
    (Fin.ext h1.symm : _ = (((cfg0.win 10).blk t).view.emb y) 1)

theorem out_dkp : (dats m 0 c).arrAt 11 cfg0.N = fun y => (A.dkp (y 0) (y 1) : EReal) := by
  refine (dats m 0 c).arrAt_eq_of_covers 11 _ (by decide +kernel) fun t hf y => ?_
  rw [after_11]
  have hy : (cfg0.win 11).xinj (cfg0.grid.coords t) y = (ix2 (y 0) (y 1) : S2048x128.Idx) := by
    rw [eq_ix2 ((cfg0.win 11).xinj (cfg0.grid.coords t) y : S2048x128.Idx)]
  refine ((congrArg (dkpAt m c t.val t.isLt) hy).trans (dkp_cell m c S H t ((flush0_11 t).mp hf) (y 0) (y 1))).trans ?_
  have h0 : ((((cfg0.win 11).blk t).view.emb y) 0).val = (y 0).val := by
    blk_simp [idx t]
  have h1 : ((((cfg0.win 11).blk t).view.emb y) 1).val = (y 1).val := by
    blk_simp [idx t]
  exact congrArg₂ (fun a b => ((A.dkp a b : ℝ) : EReal)) (Fin.ext h0.symm : _ = (((cfg0.win 11).blk t).view.emb y) 0)
    (Fin.ext h1.symm : _ = (((cfg0.win 11).blk t).view.emb y) 1)

end

end Cert.KernelIdeal.Attn
-- ==== Proof.Finite.lean ====
/- The precondition: every argument is a real number. -/
module

public import proofs.«01_k».proof.Defs
public import proofs.«01_k».proof.Proof.Gen.Pre_finite
public import Idealize.ShloMosaic.Lib.ReduceAll
public import Idealize.ShloMosaic.PureOps.Ideal

@[expose] public section

set_option maxRecDepth 16384

noncomputable section

namespace Cert.Attn

open Idealize.ShloMosaic

/-- Where the magnitude is below plus infinity the number is real. -/
theorem real_of_lt {x : EReal} (h : FloatOps.cmpf (F := Ideal) (φ := .f32) .olt (FloatOps.absf (F := Ideal) (φ := .f32) x) (FloatOps.ofBits (F := Ideal) .f32 0x7F800000#32) = 1#1) :
    x = (x.toReal : EReal) := by
  have hi : Ideal.ofBits FTy.f32 0x7F800000#32 = ⊤ := by simp [Ideal.ofBits, Ideal.ieee]
  have hx : max x (-x) < (⊤ : EReal) := by
    have h' : Ideal.cmp .olt (max x (-x)) (Ideal.ofBits FTy.f32 0x7F800000#32) = 1#1 := h
    rw [hi] at h'
    by_contra hn
    simp [Ideal.cmp, hn] at h'
  refine (EReal.coe_toReal ?_ ?_).symm
  · rintro rfl
    simp at hx
  · rintro rfl
    simp at hx

open Cert.Pre_finite in
theorem finite_args [Facts] {a : FVec Ideal S2048x2048 .f32} {b : FVec Ideal S2048x2048 .bf16} {d : FVec Ideal S2048x128 .bf16}
    {e f : FVec Ideal S2048x32 .f32} {g : FVec Ideal S2048x1024 .bf16} (h : fn (F := Ideal) a b d e f g = fun _ => 1#1) :
    (∀ i, a i = ((a i : EReal).toReal : EReal)) ∧ (∀ i, b i = ((b i : EReal).toReal : EReal)) ∧ (∀ i, d i = ((d i : EReal).toReal : EReal))
      ∧ (∀ i, e i = ((e i : EReal).toReal : EReal)) ∧ (∀ i, f i = ((f i : EReal).toReal : EReal)) ∧ (∀ i, g i = ((g i : EReal).toReal : EReal)) := by
  have h0 := congrFun h (fun k => k.elim0)
  dsimp only [fn, fn_part1] at h0
  obtain ⟨h0, hg⟩ := IntOp.andi_eq_one.mp h0
  obtain ⟨h0, hf⟩ := IntOp.andi_eq_one.mp h0
  obtain ⟨h0, he⟩ := IntOp.andi_eq_one.mp h0
  obtain ⟨h0, hd⟩ := IntOp.andi_eq_one.mp h0
  obtain ⟨ha, hb⟩ := IntOp.andi_eq_one.mp h0
  haveI : Subsingleton S_.Idx := ⟨fun x y => funext fun k => k.elim0⟩
  exact ⟨fun i => real_of_lt (Host.reduce_andi_all _ _ _ _ _ ha i), fun i => real_of_lt (Host.reduce_andi_all _ _ _ _ _ hb i),
    fun i => real_of_lt (Host.reduce_andi_all _ _ _ _ _ hd i), fun i => real_of_lt (Host.reduce_andi_all _ _ _ _ _ he i),
    fun i => real_of_lt (Host.reduce_andi_all _ _ _ _ _ hf i), fun i => real_of_lt (Host.reduce_andi_all _ _ _ _ _ hg i)⟩

end Cert.Attn
-- ==== Proof.Words.lean ====
/- The kernel over floats runs to the end and leaves its arguments: the body on any contents of its twelve buffers, with
   nothing said of what it leaves in the three results. -/
module

public import proofs.«01_k».proof.Proof.Gen.Kernel.Frame
public import proofs.«01_k».proof.Proof.Gen.Kernel.Skeleton
public import Idealize.ShloMosaic.PureOps.BitExact
public import Mathlib.Tactic.IntervalCases
public import Idealize.ShloMosaic.Lib.Claim
public import Idealize.ShloMosaic.Lib.LaneScatter.Own
public import Idealize.ShloMosaic.Lib.Pipeline.TableIdle

@[expose] public section

set_option maxRecDepth 16384

noncomputable section

namespace Cert.Kernel.Words

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)
open Cert.Kernel Cert.Kernel.Gen

local notation "𝕄" => MT nD τ sig Unit (Elt Bits) ℕ (UR sig nD τ) ℕ

/-- Which of the body's ten branches a point takes. -/
theorem branches (i : grid0.Coords) :
    ((k0_cond1 i = 1#1) = ((i 1).val = 0)) ∧ ((k0_cond2 i = 1#1) = ((i 1).val = 0 ∧ (i 0).val = 0))
    ∧ ((k0_cond3 i = 1#1) = ((i 1).val = 0)) ∧ ((k0_cond4 i = 1#1) = ((i 1).val = 1))
    ∧ ((k0_cond5 i = 1#1) = ((i 1).val = 2)) ∧ ((k0_cond6 i = 1#1) = ((i 1).val = 3))
    ∧ ((k0_cond7 i = 1#1) = ((i 1).val = 4)) ∧ ((k0_cond8 i = 1#1) = ((i 1).val = 5))
    ∧ ((k0_cond9 i = 1#1) = ((i 1).val = 6)) ∧ ((k0_cond10 i = 1#1) = ((i 1).val = 7)) := by
  have h1 : (i 1).val < 8 := (i 1).isLt
  have h0 : (i 0).val < 8 := (i 0).isLt
  simp only [k0_cond1, k0_cond2, k0_cond3, k0_cond4, k0_cond5, k0_cond6, k0_cond7, k0_cond8, k0_cond9, k0_cond10]
  generalize (i 1).val = u at h1 ⊢
  generalize (i 0).val = v at h0 ⊢
  interval_cases u <;> interval_cases v <;> decide

/-- The twelve buffers: nine inputs, each at a value, and three results at any. -/
def held (c : Dev nD)
    (q : Memref sig .tc .vmem S256x256 .f32)
    (kv : Memref sig .tc .vmem S2048x256 .bf16)
    (kp : Memref sig .tc .vmem S2048x128 .bf16)
    (o : Memref sig .tc .vmem S256x128 .bf16)
    (lse : Memref sig .tc .vmem S1x256x1 .f32)
    (go : Memref sig .tc .vmem S256x128 .bf16)
    (cs : Memref sig .tc .vmem S256x128 .f32)
    (s1 : Memref sig .tc .vmem S256x128 .f32)
    (s2 : Memref sig .tc .vmem S256x128 .f32)
    (dq : Memref sig .tc .vmem S256x256 .bf16)
    (dkv : Memref sig .tc .vmem S2048x256 .f32)
    (dkp : Memref sig .tc .vmem S2048x128 .f32)
    (x_q : Vec Bits S256x256 .f32)
    (x_kv : Vec Bits S2048x256 .bf16)
    (x_kp : Vec Bits S2048x128 .bf16)
    (x_o : Vec Bits S256x128 .bf16)
    (x_lse : Vec Bits S1x256x1 .f32)
    (x_go : Vec Bits S256x128 .bf16)
    (x_cs : Vec Bits S256x128 .f32)
    (x_s1 : Vec Bits S256x128 .f32)
    (x_s2 : Vec Bits S256x128 .f32) : sProp 𝕄 :=
  iprop(owns (c : Thread nD τ) q fullShare x_q
    ∗ owns (c : Thread nD τ) kv fullShare x_kv
    ∗ owns (c : Thread nD τ) kp fullShare x_kp
    ∗ owns (c : Thread nD τ) o fullShare x_o
    ∗ owns (c : Thread nD τ) lse fullShare x_lse
    ∗ owns (c : Thread nD τ) go fullShare x_go
    ∗ owns (c : Thread nD τ) cs fullShare x_cs
    ∗ owns (c : Thread nD τ) s1 fullShare x_s1
    ∗ owns (c : Thread nD τ) s2 fullShare x_s2
    ∗ (∃ X, owns (c : Thread nD τ) dq fullShare X)
    ∗ (∃ X, owns (c : Thread nD τ) dkv fullShare X)
    ∗ (∃ X, owns (c : Thread nD τ) dkp fullShare X))

set_option maxHeartbeats 8000000 in
/-- The body at any point runs and leaves its inputs. -/
theorem run (c : Dev nD) (i : grid0.Coords)
    (q : Memref sig .tc .vmem S256x256 .f32) (h_q : q.IsWhole)
    (kv : Memref sig .tc .vmem S2048x256 .bf16) (h_kv : kv.IsWhole)
    (kp : Memref sig .tc .vmem S2048x128 .bf16) (h_kp : kp.IsWhole)
    (o : Memref sig .tc .vmem S256x128 .bf16) (h_o : o.IsWhole)
    (lse : Memref sig .tc .vmem S1x256x1 .f32) (h_lse : lse.IsWhole)
    (go : Memref sig .tc .vmem S256x128 .bf16) (h_go : go.IsWhole)
    (cs : Memref sig .tc .vmem S256x128 .f32) (h_cs : cs.IsWhole)
    (s1 : Memref sig .tc .vmem S256x128 .f32) (h_s1 : s1.IsWhole)
    (s2 : Memref sig .tc .vmem S256x128 .f32) (h_s2 : s2.IsWhole)
    (dq : Memref sig .tc .vmem S256x256 .bf16) (h_dq : dq.IsWhole)
    (dkv : Memref sig .tc .vmem S2048x256 .f32) (h_dkv : dkv.IsWhole)
    (dkp : Memref sig .tc .vmem S2048x128 .f32) (h_dkp : dkp.IsWhole)
    (x_q : Vec Bits S256x256 .f32)
    (x_kv : Vec Bits S2048x256 .bf16)
    (x_kp : Vec Bits S2048x128 .bf16)
    (x_o : Vec Bits S256x128 .bf16)
    (x_lse : Vec Bits S1x256x1 .f32)
    (x_go : Vec Bits S256x128 .bf16)
    (x_cs : Vec Bits S256x128 .f32)
    (x_s1 : Vec Bits S256x128 .f32)
    (x_s2 : Vec Bits S256x128 .f32)
    (E : Set ℕ) (K : PUnit → sProp 𝕄) :
    iprop(held c q kv kp o lse go cs s1 s2 dq dkv dkp x_q x_kv x_kp x_o x_lse x_go x_cs x_s1 x_s2
      ∗ (held c q kv kp o lse go cs s1 s2 dq dkv dkp x_q x_kv x_kp x_o x_lse x_go x_cs x_s1 x_s2 -∗ K ⟨⟩))
      ⊢ wp frame (wpE (defs₀ (F := Bits)) Variants.none c none) E
        (cc0_l1_attn_b i q h_q kv h_kv kp h_kp o h_o lse h_lse go h_go cs h_cs s1 h_s1 s2 h_s2 dq h_dq dkv h_dkv dkp h_dkp) K := by
  obtain ⟨c1, c2, c3, c4, c5, c6, c7, c8, c9, c10⟩ := branches i
  have h1 : (i 1).val < 8 := (i 1).isLt
  obtain ⟨v, hi⟩ : ∃ v, (i 1).val = v := ⟨_, rfl⟩
  rw [hi] at h1
  unfold held
  simp only [cc0_l1_attn_b_eq_skeleton]
  unfold cc0_l1_attn_b_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩⟩, Hk⟩
  by_cases h0 : (i 0).val = 0
  all_goals interval_cases v
  all_goals
    simp only [hi, h0, OfNat.ofNat_ne_zero, OfNat.zero_ne_ofNat, zero_ne_one, Nat.reduceEqDiff, _root_.false_and, _root_.and_false, _root_.and_true, OfNat.ofNat_ne_one, OfNat.one_ne_ofNat,
      one_ne_zero, eq_iff_iff, iff_false, iff_true] at c1 c2 c3 c4 c5 c6 c7 c8 c9 c10
    sl_exec (disch := first | sl_exact c1 | sl_exact c2 | sl_exact c3 | sl_exact c4 | sl_exact c5 | sl_exact c6 | sl_exact c7 | sl_exact c8 | sl_exact c9 | sl_exact c10)
    sl_step
    iapply Hk
    isplitl [H0]; · iexists f0; isplitr; (· ipureintro; exact hf0); iexact H0
    isplitl [H1]; · iexists f1; isplitr; (· ipureintro; exact hf1); iexact H1
    isplitl [H2]; · iexists f2; isplitr; (· ipureintro; exact hf2); iexact H2
    isplitl [H3]; · iexists f3; isplitr; (· ipureintro; exact hf3); iexact H3
    isplitl [H4]; · iexists f4; isplitr; (· ipureintro; exact hf4); iexact H4
    isplitl [H5]; · iexists f5; isplitr; (· ipureintro; exact hf5); iexact H5
    isplitl [H6]; · iexists f6; isplitr; (· ipureintro; exact hf6); iexact H6
    isplitl [H7]; · iexists f7; isplitr; (· ipureintro; exact hf7); iexact H7
    isplitl [H8]; · iexists f8; isplitr; (· ipureintro; exact hf8); iexact H8
    isplitl [H9]; · (iexists _; iexists _; isplitr; swap; (· iexact H9); ipureintro; rfl)
    isplitl [H10]; · (iexists _; iexists _; isplitr; swap; (· iexact H10); ipureintro; rfl)
    iexists _; iexists _; isplitr; swap; (· iexact H11)
    ipureintro; rfl

variable (m : (ℓ : Loc nD τ sig) → Buf (Elt Bits) ℓ) (ρ : Dev nD → PrngReg)

attribute [local irreducible] iblk

/-- What the launch is run with: each array as the host code leaves it and each input block in place. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Dat.unnamed (cfg := cfg0) ⟨9, h⟩ t
    | ⟨10, h⟩ => Dat.unnamed (cfg := cfg0) ⟨10, h⟩ t
    | ⟨11, h⟩ => Dat.unnamed (cfg := cfg0) ⟨11, h⟩ t
  Φ _ := Pipeline.ΦA spec0 c
  q _ := fullShare
  owed _ := 0

/-- The three results, of which nothing is said. -/
def results (w : Fin cfg0.W) : Bool := decide (9 ≤ w.val)

theorem A_eq (c : Dev nD) (w : Fin cfg0.W) : (dats m 0 c).A w = V m c (Pipeline.arrRef spec0 w) := by dsimp only [dats]

/-- No point leaves a buffer alone. -/
theorem busy : ∀ (w : Fin cfg0.W) (t : Fin cfg0.N), cfg0.idle w (grid0.coords t) = false := by decide +kernel

theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact
  rw [busy w t]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]

/-- The body on the staging buffers of point `t`. -/
def bodyAt (t : Fin cfg0.N) : Prog (TpuEff nD τ sig (Elt Bits) Λ₀ .tc) PUnit :=
  cc0_l1_attn_b (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (win0_10.stage (cfg0.slots t 10)) (hstage0_10 ((cfg0.slots t 10).cast nbuf0_10))
    (win0_11.stage (cfg0.slots t 11)) (hstage0_11 ((cfg0.slots t 11).cast nbuf0_11))

/-- The twelve buffers of point `t`, the inputs at their blocks. -/
def heldAt (c : Dev nD) (t : Fin cfg0.N) : sProp 𝕄 :=
  held c
    (win0_0.stage (cfg0.slots t 0))
    (win0_1.stage (cfg0.slots t 1))
    (win0_2.stage (cfg0.slots t 2))
    (win0_3.stage (cfg0.slots t 3))
    (win0_4.stage (cfg0.slots t 4))
    (win0_5.stage (cfg0.slots t 5))
    (win0_6.stage (cfg0.slots t 6))
    (win0_7.stage (cfg0.slots t 7))
    (win0_8.stage (cfg0.slots t 8))
    (win0_9.stage (cfg0.slots t 9))
    (win0_10.stage (cfg0.slots t 10))
    (win0_11.stage (cfg0.slots t 11))
    (iblk m c 0 t) (iblk m c 1 t) (iblk m c 2 t) (iblk m c 3 t) (iblk m c 4 t) (iblk m c 5 t) (iblk m c 6 t) (iblk m c 7 t) (iblk m c 8 t)

theorem heldAt_eq (c : Dev nD) (t : Fin cfg0.N) : heldAt m c t = iprop(owns (c : Thread nD τ) ((cfg0.win 0).stage (cfg0.slots t 0)) fullShare (iblk m c 0 t)
    ∗ owns (c : Thread nD τ) ((cfg0.win 1).stage (cfg0.slots t 1)) fullShare (iblk m c 1 t)
    ∗ owns (c : Thread nD τ) ((cfg0.win 2).stage (cfg0.slots t 2)) fullShare (iblk m c 2 t)
    ∗ owns (c : Thread nD τ) ((cfg0.win 3).stage (cfg0.slots t 3)) fullShare (iblk m c 3 t)
    ∗ owns (c : Thread nD τ) ((cfg0.win 4).stage (cfg0.slots t 4)) fullShare (iblk m c 4 t)
    ∗ owns (c : Thread nD τ) ((cfg0.win 5).stage (cfg0.slots t 5)) fullShare (iblk m c 5 t)
    ∗ owns (c : Thread nD τ) ((cfg0.win 6).stage (cfg0.slots t 6)) fullShare (iblk m c 6 t)
    ∗ owns (c : Thread nD τ) ((cfg0.win 7).stage (cfg0.slots t 7)) fullShare (iblk m c 7 t)
    ∗ owns (c : Thread nD τ) ((cfg0.win 8).stage (cfg0.slots t 8)) fullShare (iblk m c 8 t)
    ∗ (∃ X, owns (c : Thread nD τ) ((cfg0.win 9).stage (cfg0.slots t 9)) fullShare X)
    ∗ (∃ X, owns (c : Thread nD τ) ((cfg0.win 10).stage (cfg0.slots t 10)) fullShare X)
    ∗ (∃ X, owns (c : Thread nD τ) ((cfg0.win 11).stage (cfg0.slots t 11)) fullShare X)) := rfl

theorem run_at (c : Dev nD) (t : Fin cfg0.N) (K : PUnit → sProp 𝕄) :
    iprop(heldAt m c t ∗ (heldAt m c t -∗ K ⟨⟩)) ⊢ wp frame (wpE (defs₀ (F := Bits)) Variants.none c none) Set.univ (bodyAt t) K :=
  run c (grid0.coords t) _ _ _ _ _ _ _ _ _ _ _ _ _ _ _ _ _ _ _ _ _ _ _ _ _ _ _ _ _ _ _ _ _ Set.univ K

theorem keep (c : Dev nD) (t : Fin cfg0.N) :
    (dats m 0 c).Φ t.succ = (dats m 0 c).Φ t.castSucc ∧ (dats m 0 c).owesAt () t.succ = (dats m 0 c).owesAt () t.castSucc :=
  ⟨rfl, rfl⟩

set_option maxHeartbeats 2000000 in
/-- The body at a point, from the input blocks to the input blocks. -/
theorem sound (c : Dev nD) (t : Fin cfg0.N) :
    iprop((dats m 0 c).Φ t.castSucc ∗ (dats m 0 c).owesAt () t.castSucc
      ∗ bigSep Finset.univ fun w => match results w with
        | true => iprop(∃ X, owns (c : Thread nD τ) ((cfg0.win w).stage (cfg0.slots t w)) fullShare X)
        | false => iprop(∃ d, owns (c : Thread nD τ) ((cfg0.win w).stage (cfg0.slots t w)) fullShare ((dats m 0 c).before w t d)))
    ⊢ wp frame (wpE (defs₀ (F := Bits)) Variants.none c none) Set.univ (bodyAt t) fun _ =>
      iprop((dats m 0 c).Φ t.succ ∗ (dats m 0 c).owesAt () t.succ ∗ bigSep Finset.univ fun w => match results w with
        | true => iprop(∃ X, owns (c : Thread nD τ) ((cfg0.win w).stage (cfg0.slots t w)) fullShare X)
        | false => (dats m 0 c).leavesExact w t) := by
  rw [bigSep_W0, bigSep_W0, (keep m c t).1, (keep m c t).2]
  simp only [show results 0 = false from rfl, show results 1 = false from rfl, show results 2 = false from rfl, show results 3 = false from rfl, show results 4 = false from rfl, show results 5 = false from rfl, show results 6 = false from rfl, show results 7 = false from rfl, show results 8 = false from rfl, show results 9 = true from rfl, show results 10 = true from rfl, show results 11 = true from rfl,
    leaves, after_0, after_1, after_2, after_3, after_4, after_5, after_6, after_7, after_8,
    before0_0_of m _ (A_eq m c 0) fun _ => rfl, before0_1_of m _ (A_eq m c 1) fun _ => rfl, before0_2_of m _ (A_eq m c 2) fun _ => rfl, before0_3_of m _ (A_eq m c 3) fun _ => rfl, before0_4_of m _ (A_eq m c 4) fun _ => rfl, before0_5_of m _ (A_eq m c 5) fun _ => rfl, before0_6_of m _ (A_eq m c 6) fun _ => rfl, before0_7_of m _ (A_eq m c 7) fun _ => rfl, before0_8_of m _ (A_eq m c 8) fun _ => rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11⟩
  have hr := run_at m c t
  simp only [heldAt_eq] at hr
  iapply hr
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) : (defs₀ (F := Bits)) .tc cfg0.body (cfg0.bodyArgs t (cfg0.slots t)) = bodyAt t := by
  unfold defs₀
  rw [Defs.onTc_tc]
  rfl

theorem obligation (c : Dev nD) : BodyObligation (dats m 0 c) (defs₀ (F := Bits)) Variants.none () Set.univ results := fun t => by
  rw [defs₀_row]
  exact triple_restated (sound m c t) rfl .rfl fun _ => .rfl

set_option backward.isDefEq.respectTransparency.types false in
/-- The run of the program, with nothing said of the results. -/
theorem runs : θ_run defs (onTc (τ := τ) (main (F := Bits))) (s₀ m ρ)
    (fun r => RDat.FramePost cfg0 (fun c => (dats m 0 c).toRForget results) (V m) r ∧ r.2.sem = fun _ => 0) :=
  Pipeline.θ_run_frame_forget (Q' := _) cfgs (dats m) (0 : Fin 1) launch0 defs₀ Variants.none results m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- An input array ends as it began. -/
theorem input {r : PUnit × MemSt nD τ sig (Elt Bits)}
    (h : RDat.FramePost cfg0 (fun c => (dats m 0 c).toRForget results) (V m) r) (c : Dev nD) (w : Fin cfg0.W) (hw : (cfg0.win w).isOut = false) :
    r.2.mem ((cfg0.spec w).arr.view.loc (c.tc : Thread nD τ)) = V m c (Pipeline.arrRef spec0 w) :=
  (Pipeline.RDat.FramePost.arr_in h c w hw).trans (A_eq m c w)

/-- The kernel over floats runs to the end and leaves its arguments. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => ⟨(input m h.1 c 0 rfl).trans (V_main_arg0 m c),
      (input m h.1 c 1 rfl).trans (V_main_arg1 m c),
      (input m h.1 c 2 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (input m h.1 c 5 rfl).trans (V_main_arg5 m c)⟩, h.2⟩) (runs m ρ)

end Cert.Kernel.Words

end
-- ==== Proof.Mlp.lean ====
/- The feed-forward part and its layer norm as functions of its arguments, and the reference's results, entry by entry. -/
module

public import proofs.«01_k».proof.Proof.Gen.Reference2Ideal
public import proofs.«01_k».proof.Proof.Gen.Reference2Ideal.Run
public import Idealize.ShloMosaic.PureOps.Ideal
public import Idealize.ShloMosaic.Lib.Pipeline.ValueKit.Point

@[expose] public section

set_option maxRecDepth 16384

noncomputable section

namespace Cert.Mlp

open Idealize.ShloMosaic

/-- The rows that come in, the two weights, and the norm's scale and shift. -/
structure Args where
  x : Fin 2048 → Fin 1024 → EReal
  w1 : Fin 1024 → Fin 4096 → EReal
  w2 : Fin 4096 → Fin 1024 → EReal
  g : Fin 1024 → EReal
  b : Fin 1024 → EReal

namespace Args

variable (A : Args) (r : Fin 2048)

/-- The row length, as the norm divides by it. -/
def len : EReal := Ideal.ofBits .f32 0x44800000#32

/-- The hidden layer: the positive part of the first product. -/
def hid (j : Fin 4096) : EReal := max (∑ k : Fin 1024, A.x r k * A.w1 k j) 0

/-- The scaled residual and the second product, of the squares of the hidden layer. -/
def z (d : Fin 1024) : EReal := Ideal.ofBits .f32 0x3FD744FD#32 * A.x r d + ∑ j : Fin 4096, A.hid r j * A.hid r j * A.w2 j d

/-- Its distance from the mean of its row. -/
def zc (d : Fin 1024) : EReal := A.z r d - Ideal.div (∑ e : Fin 1024, A.z r e) len

/-- One over the standard deviation of a row. -/
def rstd : EReal := Ideal.rsqrt (Ideal.div (∑ d : Fin 1024, A.zc r d * A.zc r d) len + Ideal.ofBits .f32 0x3727C5AC#32)

/-- The normed rows. -/
def xhat (d : Fin 1024) : EReal := A.zc r d * A.rstd r

/-- The same, scaled and shifted. -/
def y (d : Fin 1024) : EReal := A.xhat r d * A.g d + A.b d

end Args

end Cert.Mlp

namespace Cert.Reference2Ideal.Mlp

open Idealize.ShloMosaic Idealize.ShloMosaic.TcCoe Idealize.ShloMosaic.Tactic Idealize.ShloMosaic.StableHlo
open Idealize.SL.Sem
open Cert.Mlp Cert.Reference2Ideal Cert.Reference2Ideal.Gen Cert.Reference2Ideal.Value

variable (m : (ℓ : Loc nD τ sig) → Buf (Elt Ideal) ℓ) (c : Dev nD)

/-- The arguments' entries. -/
def args : Args where
  x r k := m ((c.tc : Thread nD τ).loc main_arg0) (ix2 r k)
  w1 k j := m ((c.tc : Thread nD τ).loc main_arg1) (ix2 k j)
  w2 j d := m ((c.tc : Thread nD τ).loc main_arg2) (ix2 j d)
  g d := m ((c.tc : Thread nD τ).loc main_arg3) (ix1 d)
  b d := m ((c.tc : Thread nD τ).loc main_arg4) (ix1 d)

theorem xhat_at (r : Fin 2048) (d : Fin 1024) : res_out1 m c (ix2 r d) = (args m c).xhat r d := by
  pointwise [res_main_v24]
  rfl

theorem y_at (r : Fin 2048) (d : Fin 1024) : res_out0 m c (ix2 r d) = (args m c).y r d := by
  pointwise [res_main_v30]
  rfl

/-- Every run of the reference ends with these results and with its arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v30) = (fun i => (args m c).y (i 0) (i 1))
      ∧ r.2.mem ((c.tc : Thread nD τ).loc main_v24) = (fun i => (args m c).xhat (i 0) (i 1))
      ∧ r.2.mem ((c.tc : Thread nD τ).loc main_v20) = (fun i => (args m c).rstd (i 0))
      ∧ r.2.mem ((c.tc : Thread nD τ).loc main_v31) = (fun i => (args m c).hid (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨hy, hx, hs, hh, hargs⟩ := h c
  refine ⟨hy.trans (funext fun i => ?_), hx.trans (funext fun i => ?_), hs.trans (funext fun i => ?_), hh.trans (funext fun i => ?_), hargs⟩
  · exact (congrArg _ (eq_ix2 i)).trans (y_at m c _ _)
  · exact (congrArg _ (eq_ix2 i)).trans (xhat_at m c _ _)
  · refine (congrArg _ (eq_ix2 i)).trans ?_
    pointwise
    rfl
  · refine (congrArg _ (eq_ix2 i)).trans ?_
    pointwise
    rfl

end Cert.Reference2Ideal.Mlp
-- ==== Proof.MlpBody.lean ====
/- What one step of the feed-forward kernel computes from its blocks, entry by entry. -/
module

public import proofs.«01_k».proof.Proof.Mlp
public import proofs.«01_k».proof.Proof.Gen.Kernel2Ideal.Value

@[expose] public section

set_option maxRecDepth 16384

noncomputable section

namespace Cert.Kernel2Ideal.Mlp

open Idealize.ShloMosaic Idealize.ShloMosaic.TcCoe Idealize.ShloMosaic.Tactic
open Cert.Mlp Cert.Kernel2Ideal Cert.Kernel2Ideal.Gen

/-- Where quarter `s` of the hidden layer begins. -/
def col (s : Fin 4) (j : Fin 1024) : Fin 4096 := ⟨s.val * 1024 + j.val, by omega⟩

/-- The blocks of a step hold rows `R` of the argument and the weights, cut in quarters. -/
structure Holds (A : Args) (R : Fin 256 → Fin 2048) (x0 : Vec Ideal S256x1024 .f32) (x1 x2 : Vec Ideal S4x1024x1024 .bf16)
    (x3 x4 : Vec Ideal S1x1024 .f32) : Prop where
  x : ∀ r k, (x0 (ix2 r k) : EReal) = A.x (R r) k
  w1 : ∀ s k j, (x1 (ix3 s k j) : EReal) = A.w1 k (col s j)
  w2 : ∀ s k d, (x2 (ix3 s k d) : EReal) = A.w2 (col s k) d
  g : ∀ d, (x3 (ix2 0 d) : EReal) = A.g d
  b : ∀ d, (x4 (ix2 0 d) : EReal) = A.b d

/-! The loads read whole blocks, or one quarter of the first weight. -/

theorem zero2 : (![0, 0] : Fin 2 → ℕ) = fun _ => 0 := by decide

theorem zero3 : (![0, 0, 0] : Fin 3 → ℕ) = fun _ => 0 := by decide

theorem ld_x (x : Vec Ideal S256x1024 .f32) : View.ld x r0_0 = x := View.ld_unit_zero (S := S256x1024) zero2 _ x

theorem ld_x_at (x : Vec Ideal S256x1024 .f32) (r : Fin 256) (k : Fin 1024) : View.ld x r0_0 (ix2 r k) = x (ix2 r k) := congrFun (ld_x x) _

theorem ld_row (x : Vec Ideal S1x1024 .f32) : View.ld x r0_10 = x := View.ld_unit_zero (S := S1x1024) zero2 _ x

theorem ld_w2 (x : Vec Ideal S4x1024x1024 .bf16) : View.ld x r0_9 = x := View.ld_unit_zero (S := S4x1024x1024) zero3 _ x

theorem ld_0 (x : Vec Ideal S4x1024x1024 .bf16) (k j : Fin 1024) : View.ld x r0_1 (ix3 0 k j) = x (ix3 0 k j) :=
  congrArg x (funext fun a => Fin.ext (match a with
    | ⟨0, _⟩ => rfl
    | ⟨1, _⟩ => by show 0 + 1 * k.val = k.val; omega
    | ⟨2, _⟩ => by show 0 + 1 * j.val = j.val; omega))

theorem ld_1 (x : Vec Ideal S4x1024x1024 .bf16) (k j : Fin 1024) : View.ld x r0_3 (ix3 0 k j) = x (ix3 1 k j) :=
  congrArg x (funext fun a => Fin.ext (match a with
    | ⟨0, _⟩ => rfl
    | ⟨1, _⟩ => by show 0 + 1 * k.val = k.val; omega
    | ⟨2, _⟩ => by show 0 + 1 * j.val = j.val; omega))

theorem ld_2 (x : Vec Ideal S4x1024x1024 .bf16) (k j : Fin 1024) : View.ld x r0_5 (ix3 0 k j) = x (ix3 2 k j) :=
  congrArg x (funext fun a => Fin.ext (match a with
    | ⟨0, _⟩ => rfl
    | ⟨1, _⟩ => by show 0 + 1 * k.val = k.val; omega
    | ⟨2, _⟩ => by show 0 + 1 * j.val = j.val; omega))

theorem ld_3 (x : Vec Ideal S4x1024x1024 .bf16) (k j : Fin 1024) : View.ld x r0_7 (ix3 0 k j) = x (ix3 3 k j) :=
  congrArg x (funext fun a => Fin.ext (match a with
    | ⟨0, _⟩ => rfl
    | ⟨1, _⟩ => by show 0 + 1 * k.val = k.val; omega
    | ⟨2, _⟩ => by show 0 + 1 * j.val = j.val; omega))

/-! The four quarters of the hidden layer. -/

theorem pay3_at (p : Vec Ideal S256x1024 .f32) (w : Vec Ideal S1x1024x1024 .bf16) (r : Fin 256) (j : Fin 1024) :
    k0_pay3 p w (ix2 r j) = max (∑ k : Fin 1024, (p (ix2 r k) : EReal) * w (ix3 0 k j)) 0 := by
  pointwise [k0_pay3, k0_pay2]

theorem pay6_at (p : Vec Ideal S256x1024 .f32) (w : Vec Ideal S1x1024x1024 .bf16) (r : Fin 256) (j : Fin 1024) :
    k0_pay6 p w (ix2 r j) = max (∑ k : Fin 1024, (p (ix2 r k) : EReal) * w (ix3 0 k j)) 0 := by
  pointwise [k0_pay6, k0_pay2]

theorem pay9_at (p : Vec Ideal S256x1024 .f32) (w : Vec Ideal S1x1024x1024 .bf16) (r : Fin 256) (j : Fin 1024) :
    k0_pay9 p w (ix2 r j) = max (∑ k : Fin 1024, (p (ix2 r k) : EReal) * w (ix3 0 k j)) 0 := by
  pointwise [k0_pay9, k0_pay2]

theorem pay12_at (p : FVec Ideal S256x1024 .bf16) (w : Vec Ideal S1x1024x1024 .bf16) (r : Fin 256) (j : Fin 1024) :
    k0_pay12 p w (ix2 r j) = max (∑ k : Fin 1024, (p (ix2 r k) : EReal) * w (ix3 0 k j)) 0 := by
  pointwise [k0_pay12]

theorem sq_at (q : FVec Ideal S256x1024 .f32) (r : Fin 256) (j : Fin 1024) :
    (truncf .bf16 (mulf q q) bitsLt_bf16_f32 : FVec Ideal S256x1024 .bf16) (ix2 r j) = (q (ix2 r j) : EReal) * q (ix2 r j) := by
  pointwise

theorem low_at (q : FVec Ideal S256x1024 .f32) (r : Fin 256) (j : Fin 1024) :
    (truncf .bf16 q bitsLt_bf16_f32 : FVec Ideal S256x1024 .bf16) (ix2 r j) = (q (ix2 r j) : EReal) := by
  pointwise

theorem pay2_at (p : Vec Ideal S256x1024 .f32) (r : Fin 256) (j : Fin 1024) : k0_pay2 p (ix2 r j) = (p (ix2 r j) : EReal) := by
  pointwise [k0_pay2]

/-- The quarters laid side by side are the whole row, and those of the second weight, stacked, the whole weight. -/
theorem quarters (f w : Fin 4096 → EReal) (j : Fin 4096) :
    (if h : j.val < 1024 then f (col 0 ⟨j.val, h⟩) * f (col 0 ⟨j.val, h⟩)
      else if h : j.val - 1024 < 1024 then f (col 1 ⟨j.val - 1024, h⟩) * f (col 1 ⟨j.val - 1024, h⟩)
      else if h : j.val - 1024 - 1024 < 1024 then f (col 2 ⟨j.val - 1024 - 1024, h⟩) * f (col 2 ⟨j.val - 1024 - 1024, h⟩)
      else f (col 3 ⟨j.val - 1024 - 1024 - 1024, by omega⟩) * f (col 3 ⟨j.val - 1024 - 1024 - 1024, by omega⟩))
        * w (col ⟨j.val / 1024, by omega⟩ ⟨j.val % 1024, by omega⟩) = f j * f j * w j := by
  have e (s : Fin 4) (k : Fin 1024) (h : s.val * 1024 + k.val = j.val) : col s k = j := Fin.ext h
  rw [e ⟨j.val / 1024, by omega⟩ ⟨j.val % 1024, by omega⟩ (by show j.val / 1024 * 1024 + j.val % 1024 = _; omega)]
  congr 1
  split
  · rw [e 0 _ (by show 0 * 1024 + j.val = _; omega)]
  split
  · rw [e 1 _ (by show 1 * 1024 + (j.val - 1024) = _; omega)]
  split
  · rw [e 2 _ (by show 2 * 1024 + (j.val - 1024 - 1024) = _; omega)]
  · rw [e 3 _ (by show 3 * 1024 + (j.val - 1024 - 1024 - 1024) = _; omega)]

section
variable {A : Args} {R : Fin 2048} {v1 v10 v19 v28 : FVec Ideal S256x1024 .bf16} {w : Vec Ideal S1x1024x1024 .bf16} {u : Vec Ideal S4x1024x1024 .bf16}
  {p : Vec Ideal S256x1024 .f32} {r : Fin 256}
  (h10 : ∀ j, (v10 (ix2 r j) : EReal) = A.hid R (col 0 j) * A.hid R (col 0 j))
  (h19 : ∀ j, (v19 (ix2 r j) : EReal) = A.hid R (col 1 j) * A.hid R (col 1 j))
  (h28 : ∀ j, (v28 (ix2 r j) : EReal) = A.hid R (col 2 j) * A.hid R (col 2 j))
  (hq : ∀ j, (k0_pay12 v1 w (ix2 r j) : EReal) = A.hid R (col 3 j))
  (hu : ∀ s k d, (u (ix3 s k d) : EReal) = A.w2 (col s k) d) (hp : ∀ k, (p (ix2 r k) : EReal) = A.x R k)
include h10 h19 h28 hq hu hp

theorem zc_of (d : Fin 1024) : k0_pay15 v1 v10 v19 v28 w u p (ix2 r d) = A.zc R d := by
  unfold k0_pay15
  generalize k0_pay12 v1 w = q at hq
  pointwise
  simp only [h10, h19, h28, hq, hu, hp]
  exact congrArg₂ (fun a b : EReal => a - b) (congrArg (fun a : EReal => _ + a) (Finset.sum_congr rfl fun j _ => quarters (A.hid R) (A.w2 · d) j))
    (congrArg (Ideal.div · _) (Finset.sum_congr rfl fun e _ =>
      congrArg (fun a : EReal => _ + a) (Finset.sum_congr rfl fun j _ => quarters (A.hid R) (A.w2 · e) j)))

theorem rstd_of : k0_pay16 v1 v10 v19 v28 w u p (ix2 r 0) = A.rstd R := by
  have h := zc_of h10 h19 h28 hq hu hp
  unfold k0_pay16
  generalize k0_pay15 v1 v10 v19 v28 w u p = q at h
  pointwise
  simp only [h]
  rfl

theorem xhat_of (d : Fin 1024) : k0_pay17 v1 v10 v19 v28 w u p (ix2 r d) = A.xhat R d := by
  have h := zc_of h10 h19 h28 hq hu hp d
  have h' := rstd_of h10 h19 h28 hq hu hp
  unfold k0_pay17
  generalize k0_pay15 v1 v10 v19 v28 w u p = q at h
  generalize k0_pay16 v1 v10 v19 v28 w u p = q' at h'
  pointwise
  simp only [h, h']
  rfl

theorem y_of {g b : Vec Ideal S1x1024 .f32} (hg : ∀ d, (g (ix2 0 d) : EReal) = A.g d) (hb : ∀ d, (b (ix2 0 d) : EReal) = A.b d) (d : Fin 1024) :
    k0_pay1 (k0_pay14 b) (k0_pay18 v1 v10 v19 v28 w u p g) (ix2 r d) = A.y R d := by
  have h := xhat_of h10 h19 h28 hq hu hp d
  unfold k0_pay1 k0_pay14 k0_pay18
  generalize k0_pay17 v1 v10 v19 v28 w u p = q at h
  pointwise
  simp only [h, hg, hb]
  rfl

end

section
variable {A : Args} {R : Fin 256 → Fin 2048} {x0 : Vec Ideal S256x1024 .f32} {x1 x2 : Vec Ideal S4x1024x1024 .bf16} {x3 x4 : Vec Ideal S1x1024 .f32}
  (H : Holds A R x0 x1 x2 x3 x4)
include H

theorem hid_0 (r : Fin 256) (j : Fin 1024) : k0_pay3 (View.ld x0 r0_0) (View.ld x1 r0_1) (ix2 r j) = A.hid (R r) (col 0 j) :=
  (pay3_at _ _ r j).trans (congrArg (fun a : EReal => max a 0) (Finset.sum_congr rfl fun k _ =>
    congrArg₂ (fun a b : EReal => a * b) ((ld_x_at x0 r k).trans (H.x r k)) ((ld_0 x1 k j).trans (H.w1 0 k j))))

theorem hid_1 (r : Fin 256) (j : Fin 1024) : k0_pay6 (View.ld x0 r0_0) (View.ld x1 r0_3) (ix2 r j) = A.hid (R r) (col 1 j) :=
  (pay6_at _ _ r j).trans (congrArg (fun a : EReal => max a 0) (Finset.sum_congr rfl fun k _ =>
    congrArg₂ (fun a b : EReal => a * b) ((ld_x_at x0 r k).trans (H.x r k)) ((ld_1 x1 k j).trans (H.w1 1 k j))))

theorem hid_2 (r : Fin 256) (j : Fin 1024) : k0_pay9 (View.ld x0 r0_0) (View.ld x1 r0_5) (ix2 r j) = A.hid (R r) (col 2 j) :=
  (pay9_at _ _ r j).trans (congrArg (fun a : EReal => max a 0) (Finset.sum_congr rfl fun k _ =>
    congrArg₂ (fun a b : EReal => a * b) ((ld_x_at x0 r k).trans (H.x r k)) ((ld_2 x1 k j).trans (H.w1 2 k j))))

theorem hid_3 (r : Fin 256) (j : Fin 1024) : k0_pay12 (k0_pay2 (View.ld x0 r0_0)) (View.ld x1 r0_7) (ix2 r j) = A.hid (R r) (col 3 j) :=
  (pay12_at _ _ r j).trans (congrArg (fun a : EReal => max a 0) (Finset.sum_congr rfl fun k _ =>
    congrArg₂ (fun a b : EReal => a * b) (((pay2_at _ r k).trans (ld_x_at x0 r k)).trans (H.x r k)) ((ld_3 x1 k j).trans (H.w1 3 k j))))

theorem sq_0 (r : Fin 256) (j : Fin 1024) : k0_pay5 (View.ld x0 r0_0) (View.ld x1 r0_1) (ix2 r j) = A.hid (R r) (col 0 j) * A.hid (R r) (col 0 j) :=
  (sq_at _ r j).trans (by rw [hid_0 H])

theorem sq_1 (r : Fin 256) (j : Fin 1024) : k0_pay8 (View.ld x0 r0_0) (View.ld x1 r0_3) (ix2 r j) = A.hid (R r) (col 1 j) * A.hid (R r) (col 1 j) :=
  (sq_at _ r j).trans (by rw [hid_1 H])

theorem sq_2 (r : Fin 256) (j : Fin 1024) : k0_pay11 (View.ld x0 r0_0) (View.ld x1 r0_5) (ix2 r j) = A.hid (R r) (col 2 j) * A.hid (R r) (col 2 j) :=
  (sq_at _ r j).trans (by rw [hid_2 H])

/-- What the step leaves in each block of results: the outputs, -/
theorem out_5 : out0_5 x0 x1 x2 x3 x4 = fun i : S256x1024.Idx => (A.y (R (i 0)) (i 1) : EReal) := by
  unfold_out out0_5
  refine (View.canon_unit_zero (S := S256x1024) zero2 _ _).trans (funext fun i => ?_)
  refine (congrArg _ (eq_ix2 i)).trans ?_
  exact y_of (sq_0 H _) (sq_1 H _) (sq_2 H _) (hid_3 H _) (fun s k d => (congrFun (ld_w2 x2) _).trans (H.w2 s k d))
    (fun k => (congrFun (ld_x x0) _).trans (H.x _ k)) (fun d => (congrFun (ld_row x3) _).trans (H.g d)) (fun d => (congrFun (ld_row x4) _).trans (H.b d)) _

/-- the normed rows, -/
theorem out_6 : out0_6 x0 x1 x2 x3 x4 = fun i : S256x1024.Idx => (A.xhat (R (i 0)) (i 1) : EReal) := by
  unfold_out out0_6
  refine (View.canon_unit_zero (S := S256x1024) zero2 _ _).trans (funext fun i => ?_)
  refine (congrArg _ (eq_ix2 i)).trans ?_
  exact xhat_of (sq_0 H _) (sq_1 H _) (sq_2 H _) (hid_3 H _) (fun s k d => (congrFun (ld_w2 x2) _).trans (H.w2 s k d))
    (fun k => (congrFun (ld_x x0) _).trans (H.x _ k)) _

/-- one over each row's standard deviation -/
theorem out_7 : out0_7 x0 x1 x2 x3 x4 = fun i : S256x1.Idx => (A.rstd (R (i 0)) : EReal) := by
  unfold_out out0_7
  refine (View.canon_unit_zero (S := S256x1) zero2 _ _).trans (funext fun i => ?_)
  have e : i = ix2 (i 0) 0 := by
    conv_lhs => rw [eq_ix2 i]
    exact congrArg (ix2 (i 0)) (Subsingleton.elim _ _)
  refine (congrArg _ e).trans ?_
  exact rstd_of (sq_0 H _) (sq_1 H _) (sq_2 H _) (hid_3 H _) (fun s k d => (congrFun (ld_w2 x2) _).trans (H.w2 s k d))
    (fun k => (congrFun (ld_x x0) _).trans (H.x _ k))

/-- and the hidden layer, a quarter at a time. -/
theorem out_8 : out0_8 x0 x1 x2 x3 x4 = fun i : S256x4096.Idx => (A.hid (R (i 0)) (i 1) : EReal) := by
  unfold_out out0_8
  funext i
  have e {r : Rect S256x4096} (x : r.shape.Idx) (a : Fin 256) (b : Fin 4096) (h0 : ((r.emb x) 0).val = a.val) (h1 : ((r.emb x) 1).val = b.val) :
      A.hid (R a) b = A.hid (R ((r.emb x) 0)) ((r.emb x) 1) :=
    congrArg₂ (fun a b => A.hid (R a) b) (Fin.ext h0.symm : a = (r.emb x) 0) (Fin.ext h1.symm : b = (r.emb x) 1)
  refine View.canon_apply_of_pieces (Val := Elt Ideal) (fun i : S256x4096.Idx => (A.hid (R (i 0)) (i 1) : EReal)) _ ?_ i (cover0_8 _ _ _ _ i)
  intro pc hpc
  rcases List.mem_cons.mp hpc with rfl | hpc
  · intro x
    refine (congrArg _ (eq_ix2 x)).trans ((low_at _ _ _).trans ((hid_3 H _ _).trans (e x _ _ ?_ ?_)))
    · show 0 + 1 * (x 0).val = (x 0).val; omega
    · show 3072 + 1 * (x 1).val = 3 * 1024 + (x 1).val; omega
  rcases List.mem_cons.mp hpc with rfl | hpc
  · intro x
    refine (congrArg _ (eq_ix2 x)).trans ((low_at _ _ _).trans ((hid_2 H _ _).trans (e x _ _ ?_ ?_)))
    · show 0 + 1 * (x 0).val = (x 0).val; omega
    · show 2048 + 1 * (x 1).val = 2 * 1024 + (x 1).val; omega
  rcases List.mem_cons.mp hpc with rfl | hpc
  · intro x
    refine (congrArg _ (eq_ix2 x)).trans ((low_at _ _ _).trans ((hid_1 H _ _).trans (e x _ _ ?_ ?_)))
    · show 0 + 1 * (x 0).val = (x 0).val; omega
    · show 1024 + 1 * (x 1).val = 1 * 1024 + (x 1).val; omega
  obtain rfl := List.mem_singleton.mp hpc
  intro x
  refine (congrArg _ (eq_ix2 x)).trans ((low_at _ _ _).trans ((hid_0 H _ _).trans (e x _ _ ?_ ?_)))
  · show 0 + 1 * (x 0).val = (x 0).val; omega
  · show 0 + 1 * (x 1).val = 0 * 1024 + (x 1).val; omega

end

end Cert.Kernel2Ideal.Mlp
-- ==== Proof.MlpOut.lean ====
/- What the feed-forward kernel reads and what its launch leaves. -/
module

public import proofs.«01_k».proof.Proof.MlpBody

@[expose] public section

set_option maxRecDepth 16384

noncomputable section

namespace Cert.Kernel2Ideal.Mlp

open Idealize.ShloMosaic Idealize.ShloMosaic.TcCoe Idealize.ShloMosaic.Tactic
open Idealize.SL.Sem
open Cert.Mlp Cert.Kernel2Ideal Cert.Kernel2Ideal.Gen Cert.Kernel2Ideal.Value

variable (m : (ℓ : Loc nD τ sig) → Buf (Elt Ideal) ℓ) (c : Dev nD)

/-- The arguments' entries. -/
def args : Args where
  x r k := m ((c.tc : Thread nD τ).loc main_arg0) (ix2 r k)
  w1 k j := m ((c.tc : Thread nD τ).loc main_arg1) (ix2 k j)
  w2 j d := m ((c.tc : Thread nD τ).loc main_arg2) (ix2 j d)
  g d := m ((c.tc : Thread nD τ).loc main_arg3) (ix1 d)
  b d := m ((c.tc : Thread nD τ).loc main_arg4) (ix1 d)

/-! What the host code hands over. -/

theorem host_w1 (s : Fin 4) (k j : Fin 1024) : (V m c main_v2 (ix3 s k j) : EReal) = (args m c).w1 k (col s j) := by
  have h : V m c main_v2 = (transpose S4x1024x1024 [1, 0, 2] (shapeCast S1024x4x1024
      (truncf .bf16 (m ((c.tc : Thread nD τ).loc main_arg1) : FVec Ideal S1024x4096 .f32) bitsLt_bf16_f32 : FVec Ideal S1024x4096 .bf16) shapeCasts_S1024x4096_S1024x4x1024)
      transposes_S1024x4x1024_S4x1024x1024_1_0_2 : FVec Ideal S4x1024x1024 .bf16) := by
    simp only [V, hostOps0]
    after_results_simp
    rfl
  refine (congrFun h _).trans ?_
  pointwise
  rfl

theorem host_w2 (s : Fin 4) (k d : Fin 1024) : (V m c main_v4 (ix3 s k d) : EReal) = (args m c).w2 (col s k) d := by
  have h : V m c main_v4 = (shapeCast S4x1024x1024
      (truncf .bf16 (m ((c.tc : Thread nD τ).loc main_arg2) : FVec Ideal S4096x1024 .f32) bitsLt_bf16_f32 : FVec Ideal S4096x1024 .bf16) shapeCasts_S4096x1024_S4x1024x1024
      : FVec Ideal S4x1024x1024 .bf16) := by
    simp only [V, hostOps0]
    after_results_simp
    rfl
  refine (congrFun h _).trans ?_
  pointwise
  rfl

theorem host_g (d : Fin 1024) : (V m c main_v5 (ix2 0 d) : EReal) = (args m c).g d := by
  have h : V m c main_v5 = (broadcastInDim S1x1024 ![1] bcast_S1024_S1x1024_1 (m ((c.tc : Thread nD τ).loc main_arg3) : FVec Ideal S1024 .f32)
      : FVec Ideal S1x1024 .f32) := by
    simp only [V, hostOps0]
    after_results_simp
  refine (congrFun h _).trans ?_
  pointwise
  rfl

theorem host_b (d : Fin 1024) : (V m c main_v6 (ix2 0 d) : EReal) = (args m c).b d := by
  have h : V m c main_v6 = (broadcastInDim S1x1024 ![1] bcast_S1024_S1x1024_1 (m ((c.tc : Thread nD τ).loc main_arg4) : FVec Ideal S1024 .f32)
      : FVec Ideal S1x1024 .f32) := by
    simp only [V, hostOps0]
    after_results_simp
  refine (congrFun h _).trans ?_
  pointwise
  rfl

/-- Which block each window reads or writes at a point. -/
theorem idx : ∀ t : Fin cfg0.N,
    win0_0.index t = ![t.val, 0] ∧ win0_1.index t = ![0, 0, 0] ∧ win0_2.index t = ![0, 0, 0] ∧ win0_3.index t = ![0, 0] ∧ win0_4.index t = ![0, 0]
    ∧ win0_5.index t = ![t.val, 0] ∧ win0_6.index t = ![t.val, 0] ∧ win0_7.index t = ![t.val, 0] ∧ win0_8.index t = ![t.val, 0] := by
  decide +kernel

/-- The rows of a point. -/
def row (t : Fin cfg0.N) (r : Fin 256) : Fin 2048 := ⟨t.val * 256 + r.val, by have := t.isLt; have hN : cfg0.N = 8 := N_0; omega⟩

theorem blk_x (t : Fin cfg0.N) (r : Fin 256) (k : Fin 1024) : iblk m c 0 t (ix2 r k) = V m c main_arg0 (ix2 (row t r) k) := by
  have h : ∀ X : FVec Ideal S2048x1024 .f32, ((cfg0.win 0).blk t).view.read (Elt Ideal) X (ix2 r k) = X (ix2 (row t r) k) := by
    intro X
    blk_ext [idx t, row]
  exact h _

theorem blk_w1 (t : Fin cfg0.N) (s : Fin 4) (k j : Fin 1024) : iblk m c 1 t (ix3 s k j) = V m c main_v2 (ix3 s k j) := by
  have h : ∀ X : FVec Ideal S4x1024x1024 .bf16, ((cfg0.win 1).blk t).view.read (Elt Ideal) X (ix3 s k j) = X (ix3 s k j) := by
    intro X
    blk_ext [idx t]
  exact h _

theorem blk_w2 (t : Fin cfg0.N) (s : Fin 4) (k j : Fin 1024) : iblk m c 2 t (ix3 s k j) = V m c main_v4 (ix3 s k j) := by
  have h : ∀ X : FVec Ideal S4x1024x1024 .bf16, ((cfg0.win 2).blk t).view.read (Elt Ideal) X (ix3 s k j) = X (ix3 s k j) := by
    intro X
    blk_ext [idx t]
  exact h _

theorem blk_g (t : Fin cfg0.N) (d : Fin 1024) : iblk m c 3 t (ix2 0 d) = V m c main_v5 (ix2 0 d) := by
  have h : ∀ X : FVec Ideal S1x1024 .f32, ((cfg0.win 3).blk t).view.read (Elt Ideal) X (ix2 0 d) = X (ix2 0 d) := by
    intro X
    blk_ext [idx t]
  exact h _

theorem blk_b (t : Fin cfg0.N) (d : Fin 1024) : iblk m c 4 t (ix2 0 d) = V m c main_v6 (ix2 0 d) := by
  have h : ∀ X : FVec Ideal S1x1024 .f32, ((cfg0.win 4).blk t).view.read (Elt Ideal) X (ix2 0 d) = X (ix2 0 d) := by
    intro X
    blk_ext [idx t]
  exact h _

theorem holds (t : Fin cfg0.N) : Holds (args m c) (row t) (iblk m c 0 t) (iblk m c 1 t) (iblk m c 2 t) (iblk m c 3 t) (iblk m c 4 t) where
  x r k := (blk_x m c t r k).trans (congrFun (V_main_arg0 m c) _)
  w1 s k j := (blk_w1 m c t s k j).trans (host_w1 m c s k j)
  w2 s k d := (blk_w2 m c t s k d).trans (host_w2 m c s k d)
  g d := (blk_g m c t d).trans (host_g m c d)
  b d := (blk_b m c t d).trans (host_b m c d)

/-! What the launch leaves in its outputs. -/

theorem arr_5 : (dats m 0 c).arrAt 5 cfg0.N = fun i => ((args m c).y (i 0) (i 1) : EReal) := by
  refine (dats m 0 c).arrAt_eq_of_covers 5 _ (by decide +kernel) fun t hf i => ?_
  rw [after0_5, out_5 (holds m c t)]
  have h0 : ((((cfg0.win 5).blk t).view.emb i) 0).val = t.val * 256 + (i 0).val := by
    blk_simp [idx t]
  have h1 : ((((cfg0.win 5).blk t).view.emb i) 1).val = (i 1).val := by
    blk_simp [idx t]
  exact congrArg₂ (args m c).y (Fin.ext h0.symm : _ = (((cfg0.win 5).blk t).view.emb i) 0) (Fin.ext h1.symm : _ = (((cfg0.win 5).blk t).view.emb i) 1)

theorem arr_6 : (dats m 0 c).arrAt 6 cfg0.N = fun i => ((args m c).xhat (i 0) (i 1) : EReal) := by
  refine (dats m 0 c).arrAt_eq_of_covers 6 _ (by decide +kernel) fun t hf i => ?_
  rw [after0_6, out_6 (holds m c t)]
  have h0 : ((((cfg0.win 6).blk t).view.emb i) 0).val = t.val * 256 + (i 0).val := by
    blk_simp [idx t]
  have h1 : ((((cfg0.win 6).blk t).view.emb i) 1).val = (i 1).val := by
    blk_simp [idx t]
  exact congrArg₂ (args m c).xhat (Fin.ext h0.symm : _ = (((cfg0.win 6).blk t).view.emb i) 0) (Fin.ext h1.symm : _ = (((cfg0.win 6).blk t).view.emb i) 1)

theorem arr_7 : (dats m 0 c).arrAt 7 cfg0.N = fun i => ((args m c).rstd (i 0) : EReal) := by
  refine (dats m 0 c).arrAt_eq_of_covers 7 _ (by decide +kernel) fun t hf i => ?_
  rw [after0_7, out_7 (holds m c t)]
  have h0 : ((((cfg0.win 7).blk t).view.emb i) 0).val = t.val * 256 + (i 0).val := by
    blk_simp [idx t]
  exact congrArg (args m c).rstd (Fin.ext h0.symm : _ = (((cfg0.win 7).blk t).view.emb i) 0)

theorem arr_8 : (dats m 0 c).arrAt 8 cfg0.N = fun i => ((args m c).hid (i 0) (i 1) : EReal) := by
  refine (dats m 0 c).arrAt_eq_of_covers 8 _ (by decide +kernel) fun t hf i => ?_
  rw [after0_8, out_8 (holds m c t)]
  have h0 : ((((cfg0.win 8).blk t).view.emb i) 0).val = t.val * 256 + (i 0).val := by
    blk_simp [idx t]
  have h1 : ((((cfg0.win 8).blk t).view.emb i) 1).val = (i 1).val := by
    blk_simp [idx t]
  exact congrArg₂ (args m c).hid (Fin.ext h0.symm : _ = (((cfg0.win 8).blk t).view.emb i) 0) (Fin.ext h1.symm : _ = (((cfg0.win 8).blk t).view.emb i) 1)

end Cert.Kernel2Ideal.Mlp
-- ==== Proof.BackBody.lean ====
/- The body of the feed-forward backward call at one grid point: what it adds to the two sums it keeps, and what it writes of them. -/
module

public import proofs.«01_k».proof.Proof.Gen.Kernel3Ideal.Frame
public import proofs.«01_k».proof.Proof.Gen.Kernel3Ideal.Skeleton
public import Idealize.ShloMosaic.Lib.LaneScatter.Own
public import Idealize.ShloMosaic.Lib.Pipeline.ValueKit
public import Idealize.ShloMosaic.Lib.Pipeline.ReadBack
public import Idealize.ShloMosaic.Lib.WholeRead
public import Idealize.ShloMosaic.Lib.WritesUnit
public import Idealize.ShloMosaic.Lib.VecWindow

@[expose] public section

set_option maxRecDepth 16384

noncomputable section

namespace Cert.Kernel3Ideal.Back

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

local notation "𝕄" => MT nD τ sig Unit (Elt F) ℕ (UR sig nD τ) ℕ

/-- The buffers the body is called with: eight inputs, five outputs, and three that it keeps from point to point. -/
structure Bufs where
  dz : Memref sig .tc .vmem S512x1024 .f32
  hdz : dz.IsWhole
  relu : Memref sig .tc .vmem S512x1024 .bf16
  hrelu : relu.IsWhole
  x : Memref sig .tc .vmem S512x1024 .f32
  hx : x.IsWhole
  w1 : Memref sig .tc .vmem S1x1024x1024 .bf16
  hw1 : w1.IsWhole
  w2 : Memref sig .tc .vmem S1x1024x1024 .bf16
  hw2 : w2.IsWhole
  xhat : Memref sig .tc .vmem S512x1024 .f32
  hxhat : xhat.IsWhole
  rstd : Memref sig .tc .vmem S512x1 .f32
  hrstd : rstd.IsWhole
  g : Memref sig .tc .vmem S1x1024 .f32
  hg : g.IsWhole
  out : Memref sig .tc .vmem S512x1024 .f32
  hout : out.IsWhole
  g1 : Memref sig .tc .vmem S1x1024x1024 .bf16
  hg1 : g1.IsWhole
  g2 : Memref sig .tc .vmem S1x1024x1024 .bf16
  hg2 : g2.IsWhole
  dg : Memref sig .tc .vmem S1x1024 .f32
  hdg : dg.IsWhole
  db : Memref sig .tc .vmem S1x1024 .f32
  hdb : db.IsWhole
  acc1 : Memref sig .tc .vmem S1024x1024 .f32
  hacc1 : acc1.IsWhole
  acc2 : Memref sig .tc .vmem S1024x1024 .f32
  hacc2 : acc2.IsWhole
  dx : Memref sig .tc .vmem S2048x1024 .f32
  hdx : dx.IsWhole

/-- The contents of the eight inputs. -/
structure Ins (F : FTy → Type) where
  dz : Vec F S512x1024 .f32
  relu : Vec F S512x1024 .bf16
  x : Vec F S512x1024 .f32
  w1 : Vec F S1x1024x1024 .bf16
  w2 : Vec F S1x1024x1024 .bf16
  xhat : Vec F S512x1024 .f32
  rstd : Vec F S512x1 .f32
  g : Vec F S1x1024 .f32

/-- The input buffers of `a` hold `v`. -/
def Bufs.holds (a : Bufs) (c : Dev nD) (v : Ins F) : sProp 𝕄 :=
  iprop(owns (c : Thread nD τ) a.dz fullShare v.dz ∗ owns (c : Thread nD τ) a.relu fullShare v.relu
    ∗ owns (c : Thread nD τ) a.x fullShare v.x ∗ owns (c : Thread nD τ) a.w1 fullShare v.w1
    ∗ owns (c : Thread nD τ) a.w2 fullShare v.w2 ∗ owns (c : Thread nD τ) a.xhat fullShare v.xhat
    ∗ owns (c : Thread nD τ) a.rstd fullShare v.rstd ∗ owns (c : Thread nD τ) a.g fullShare v.g)

/-- The body on the buffers `a`. -/
def Bufs.body (a : Bufs) (i : grid0.Coords) : Prog (TpuEff nD τ sig (Elt F) Λ₀ .tc) PUnit :=
  cc0_l0_mlp_b i a.dz a.hdz a.relu a.hrelu a.x a.hx a.w1 a.hw1 a.w2 a.hw2 a.xhat a.hxhat a.rstd a.hrstd a.g a.hg
    a.out a.hout a.g1 a.hg1 a.g2 a.hg2 a.dg a.hdg a.db a.hdb a.acc1 a.hacc1 a.acc2 a.hacc2 a.dx a.hdx

/-- What the first sum holds after a point: a slice's first point clears it. -/
def next1 (p : Prop) [Decidable p] (v : Ins F) (u : Vec F S1024x1024 .f32) : Vec F S1024x1024 .f32 :=
  k0_pay2 (k0_pay20 v.dz v.relu v.w2 v.x) (if p then k0_pay11 else u)

/-- What the second sum holds after a point. -/
def next2 (p : Prop) [Decidable p] (v : Ins F) (u : Vec F S1024x1024 .f32) : Vec F S1024x1024 .f32 :=
  k0_pay3 (k0_pay19 v.dz v.relu) (if p then k0_pay12 else u)

/-- The word that says whether a point is a slice's first. -/
def isFirst (i : grid0.Coords) : BitVec 1 :=
  Scalar.cmpi .ne (Scalar.extui (Scalar.cmpi .eq (BitVec.ofNat 32 (i 1).val) 0#32) : BitVec 32) 0#32

/-- Which of the body's branches a point takes. -/
theorem branches (i : grid0.Coords) :
    ((isFirst i = 1#1) = ((i 1).val = 0))
    ∧ ((k0_cond2 i = 1#1) = ((i 0).val = 0)) ∧ ((k0_cond3 i = 1#1) = ((i 0).val = 0 ∧ (i 1).val = 0))
    ∧ ((k0_cond4 i = 1#1) = ((i 1).val = 3)) ∧ ((k0_cond5 i = 1#1) = ((i 0).val = 3)) := by
  have h1 : (i 1).val < 4 := (i 1).isLt
  have h0 : (i 0).val < 4 := (i 0).isLt
  simp only [isFirst, k0_cond2, k0_cond3, k0_cond4, k0_cond5]
  generalize (i 1).val = u at h1 ⊢
  generalize (i 0).val = v at h0 ⊢
  interval_cases u <;> interval_cases v <;> decide

/-- A whole buffer held at a value is its reference held at the contents that read as the value. -/
theorem owns_eq {c : Thread nD τ} {p : Space} {s : Shape} {e : EltTy} {m : Memref sig c.2.kind p s e} (h : m.IsWhole) (X : Vec F s e) :
    (owns c m fullShare X : sProp 𝕄) = (m.view.loc c ↦[m.view.set]{fullShare} h.unread X) := by
  have hr := h.read_unread (Val := Elt F) X
  generalize h.unread X = f at hr ⊢
  obtain ⟨b, hsp, hsh, he, h⟩ := h
  subst hsp hsh he
  cases h
  subst hr
  show (owns c (Memref.whole b) fullShare f : sProp 𝕄) = _
  refine (owns_whole c b fullShare f).trans ?_
  simp only [Memref.view_whole, View.set_whole]

/-- A load of a whole buffer reads what it holds. -/
theorem load_whole {κ : Kind} {p : Space} {s : Shape} {e : EltTy} {m : Memref sig κ p s e} (h : m.IsWhole) (X : Vec F s e)
    {off : Fin s.rank → ℕ} (inb : ∀ a, off a + s.size a ≤ s.size a) :
    View.readAt (Elt F) m.view (Rect.unit off s.size inb).toLoadRect (h.unread X) = X := by
  have h0 : off = fun _ => 0 := funext fun a => by have := inb a; omega
  funext x
  exact (h.readAt_unread X _ x).trans (congrFun (View.ld_unit_zero h0 inb X) x)

/-- A buffer whose last store filled it holds what was stored. -/
theorem read_filled {κ : Kind} {p : Space} {s : Shape} {e : EltTy} (v : View sig κ p s e) (f : v.ty.Contents (Elt F))
    {off : Fin s.rank → ℕ} (inb : ∀ a, off a + s.size a ≤ s.size a) (w : s.Idx → Elt F e) (L : List (View.Piece (Elt F) s e)) :
    v.read (Elt F) (v.writes (Elt F) f (⟨Rect.unit off s.size inb, w⟩ :: L)) = w := by
  funext y
  exact View.read_writes_cons_unit_of_mem v f inb w L y y rfl (by intro k; have := inb k; omega)

/-- A load of a whole buffer after a store that filled it reads what was stored. -/
theorem load_filled {κ : Kind} {p : Space} {s : Shape} {e : EltTy} (v : View sig κ p s e) {off off' : Fin s.rank → ℕ}
    (inb : ∀ a, off a + s.size a ≤ s.size a) (inb' : ∀ a, off' a + s.size a ≤ s.size a) (w : s.Idx → Elt F e)
    (L : List (View.Piece (Elt F) s e)) :
    v.readCov (⟨Rect.unit off s.size inb, w⟩ :: L) (Rect.unit off' s.size inb').toLoadRect = w := by
  have h0 : off = fun _ => 0 := funext fun a => by have := inb a; omega
  have h1 : off' = fun _ => 0 := funext fun a => by have := inb' a; omega
  exact (View.readCov_fill v inb w L _ (fun a => congrFun h0 a)).trans (View.ld_unit_zero h1 inb' w)

theorem pay20_congr {a a' : Vec F S512x1024 .f32} {b b' : Vec F S512x1024 .bf16} {d d' : Vec F S1x1024x1024 .bf16}
    {e e' : Vec F S512x1024 .f32} (h1 : a = a') (h2 : b = b') (h3 : d = d') (h4 : e = e') :
    k0_pay20 a b d e = k0_pay20 a' b' d' e' := by
  subst h1; subst h2; subst h3; subst h4; rfl

/-- What the body leaves: the inputs, the two sums one step on, and at a slice's last point the sums written out. -/
def Left (c : Dev nD) (i : grid0.Coords) (a : Bufs) (v : Ins F) (u1 u2 : Vec F S1024x1024 .f32) : sProp 𝕄 :=
  iprop(a.holds c v ∗ (∃ d, owns (c : Thread nD τ) a.out fullShare d)
    ∗ (∃ d, ⌜(i 1).val = 3 → d = k0_pay4 (next1 ((i 1).val = 0) v u1)⌝ ∗ owns (c : Thread nD τ) a.g1 fullShare d)
    ∗ (∃ d, ⌜(i 1).val = 3 → d = k0_pay5 (next2 ((i 1).val = 0) v u2)⌝ ∗ owns (c : Thread nD τ) a.g2 fullShare d)
    ∗ (∃ d, owns (c : Thread nD τ) a.dg fullShare d) ∗ (∃ d, owns (c : Thread nD τ) a.db fullShare d)
    ∗ owns (c : Thread nD τ) a.acc1 fullShare (next1 ((i 1).val = 0) v u1)
    ∗ owns (c : Thread nD τ) a.acc2 fullShare (next2 ((i 1).val = 0) v u2)
    ∗ (∃ d, owns (c : Thread nD τ) a.dx fullShare d))

set_option maxHeartbeats 8000000 in
theorem runs (c : Dev nD) (i : grid0.Coords) (a : Bufs) (v : Ins F) (u1 u2 : Vec F S1024x1024 .f32) (E : Set ℕ) (K : PUnit → sProp 𝕄) :
    iprop(a.holds c v ∗ (∃ d, owns (c : Thread nD τ) a.out fullShare d) ∗ (∃ d, owns (c : Thread nD τ) a.g1 fullShare d)
      ∗ (∃ d, owns (c : Thread nD τ) a.g2 fullShare d) ∗ (∃ d, owns (c : Thread nD τ) a.dg fullShare d)
      ∗ (∃ d, owns (c : Thread nD τ) a.db fullShare d) ∗ owns (c : Thread nD τ) a.acc1 fullShare u1
      ∗ owns (c : Thread nD τ) a.acc2 fullShare u2 ∗ (∃ d, owns (c : Thread nD τ) a.dx fullShare d)
      ∗ (Left c i a v u1 u2 -∗ K ⟨⟩))
      ⊢ wp frame (wpE (defs₀ (F := F)) Variants.none c none) E (a.body i) K := by
  obtain ⟨dz, hdz, relu, hrelu, x, hx, w1, hw1, w2, hw2, xhat, hxhat, rstd, hrstd, g, hg, out, hout, g1, hg1, g2, hg2, dg, hdg,
    db, hdb, acc1, hacc1, acc2, hacc2, dx, hdx⟩ := a
  obtain ⟨x0, x1, x2, x3, x4, x5, x6, x7⟩ := v
  obtain ⟨c1, c2, c3, c4, c5⟩ := branches i
  have h1 : (i 1).val < 4 := (i 1).isLt
  have h0 : (i 0).val < 4 := (i 0).isLt
  by_cases p1 : (i 1).val = 0 <;> by_cases p4 : (i 1).val = 3 <;> by_cases p2 : (i 0).val = 0 <;> by_cases p5 : (i 0).val = 3
  all_goals first | (exfalso; omega) | skip
  all_goals
    simp only [p1, p2, p4, p5, _root_.true_and, _root_.and_true, _root_.and_false, _root_.false_and, OfNat.zero_ne_ofNat, OfNat.ofNat_ne_zero, eq_iff_iff, iff_false, iff_true] at c1 c2 c3 c4 c5
    unfold Left next1 next2
    unfold isFirst at c1
    unfold Bufs.body Bufs.holds
    simp only [cc0_l0_mlp_b_eq_skeleton]
    unfold cc0_l0_mlp_b_skel
    simp only [k0_part2_eq_skeleton, k0_part1_eq_skeleton]
    rw [owns_eq hdz, owns_eq hrelu, owns_eq hx, owns_eq hw1, owns_eq hw2, owns_eq hxhat, owns_eq hrstd, owns_eq hg]
    unfold owns
    iintro ⟨⟨H0, H1, H2, H3, H4, H5, H6, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, ⟨%f14, %hf14, H14⟩, ⟨%d15, %f15, -, H15⟩, Hk⟩
    obtain rfl := hacc1.eq_unread hf13
    obtain rfl := hacc2.eq_unread hf14
    sl_exec (disch := first | sl_exact c1 | sl_exact c2 | sl_exact c3 | sl_exact c4 | sl_exact c5)
    sl_step
    iapply Hk
    iframe H0 H1 H2 H3 H4 H5 H6 H7
    isplitl [H8]; · iexists _, _; isplitr; swap; (· iexact H8); ipureintro; rfl
    isplitl [H9]
    · iexists _; isplitr; swap
      · iexists _; isplitr; swap; (· iexact H9); ipureintro; rfl
      ipureintro
      first
      | (intro h; exact absurd h p4)
      | (intro h; exact absurd (p1.symm.trans h) (by decide))
      | intro _
        sl_unfold_words
        refine (read_filled _ _ _ _ _).trans (congrArg k0_pay4 ((load_filled _ _ _ _ _).trans (congrArg₂ k0_pay2
          (pay20_congr (load_whole hdz x0 _) (load_whole hrelu x1 _) (load_whole hw2 x4 _) (load_whole hx x2 _)) ?_)))
        first | refine Eq.trans ?_ (if_pos p1).symm | refine Eq.trans ?_ (if_neg p1).symm
        first | exact load_filled _ _ _ _ _ | exact load_whole hacc1 u1 _
    isplitl [H10]
    · iexists _; isplitr; swap
      · iexists _; isplitr; swap; (· iexact H10); ipureintro; rfl
      ipureintro
      first
      | (intro h; exact absurd h p4)
      | (intro h; exact absurd (p1.symm.trans h) (by decide))
      | intro _
        sl_unfold_words
        refine (read_filled _ _ _ _ _).trans (congrArg k0_pay5 ((load_filled _ _ _ _ _).trans (congrArg₂ k0_pay3
          (congrArg₂ k0_pay19 (load_whole hdz x0 _) (load_whole hrelu x1 _)) ?_)))
        first | refine Eq.trans ?_ (if_pos p1).symm | refine Eq.trans ?_ (if_neg p1).symm
        first | exact load_filled _ _ _ _ _ | exact load_whole hacc2 u2 _
    isplitl [H11]; · iexists _, _; isplitr; swap; (· iexact H11); ipureintro; rfl
    isplitl [H12]; · iexists _, _; isplitr; swap; (· iexact H12); ipureintro; rfl
    isplitl [H13]
    · iexists _; isplitr; swap; (· iexact H13); ipureintro
      sl_unfold_words
      refine (read_filled _ _ _ _ _).trans (congrArg₂ k0_pay2 (pay20_congr (load_whole hdz x0 _) (load_whole hrelu x1 _)
        (load_whole hw2 x4 _) (load_whole hx x2 _)) ?_)
      first | refine Eq.trans ?_ (if_pos p1).symm | refine Eq.trans ?_ (if_neg p1).symm
      first | exact load_filled _ _ _ _ _ | exact load_whole hacc1 u1 _
    isplitl [H14]
    · iexists _; isplitr; swap; (· iexact H14); ipureintro
      sl_unfold_words
      refine (read_filled _ _ _ _ _).trans (congrArg₂ k0_pay3 (congrArg₂ k0_pay19 (load_whole hdz x0 _) (load_whole hrelu x1 _)) ?_)
      first | refine Eq.trans ?_ (if_pos p1).symm | refine Eq.trans ?_ (if_neg p1).symm
      first | exact load_filled _ _ _ _ _ | exact load_whole hacc2 u2 _
    iexists _, _; isplitr; swap; (· iexact H15); ipureintro; rfl

end Cert.Kernel3Ideal.Back

end
-- ==== Proof.BackLeg.lean ====
/- The launch of the feed-forward backward call: what the points leave, and the run of the program. -/
module

public import proofs.«01_k».proof.Proof.BackBody
public import Idealize.ShloMosaic.Lib.Claim
public import Idealize.ShloMosaic.Lib.Pipeline.TableIdle
public import Idealize.ShloMosaic.Lib.Pipeline.ArrRel
public import Idealize.ShloMosaic.Lib.Pipeline.FrameBody

@[expose] public section

set_option maxRecDepth 16384

noncomputable section

namespace Cert.Kernel3Ideal.Back

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)
open Cert.Kernel3Ideal Cert.Kernel3Ideal.Gen

variable {F : FTy → Type} [FloatOps F]

local notation "𝕄" => MT nD τ sig Unit (Elt F) ℕ (UR sig nD τ) ℕ

/-- Point `t` is tile `t % 4` of slice `t / 4`. -/
theorem coords_eq : ∀ t : Fin cfg0.N, (grid0.coords t 1).val = t.val % 4 ∧ (grid0.coords t 0).val = t.val / 4 := by
  decide +kernel

variable (m : (ℓ : Loc nD τ sig) → Buf (Elt F) ℓ) (ρ : Dev nD → PrngReg)

/-- The blocks of the eight inputs at a point. -/
def ins (c : Dev nD) (t : Fin cfg0.N) : Ins F :=
  ⟨iblk m c 0 t, iblk m c 1 t, iblk m c 2 t, iblk m c 3 t, iblk m c 4 t, iblk m c 5 t, iblk m c 6 t, iblk m c 7 t⟩

/-- The first sum after `n` points: begun anew at each slice's first. -/
def sum1 (c : Dev nD) : ℕ → Vec F S1024x1024 .f32
  | 0 => k0_pay11
  | n + 1 => if h : n < cfg0.N then next1 (n % 4 = 0) (ins m c ⟨n, h⟩) (sum1 c n) else k0_pay11

/-- The second. -/
def sum2 (c : Dev nD) : ℕ → Vec F S1024x1024 .f32
  | 0 => k0_pay12
  | n + 1 => if h : n < cfg0.N then next2 (n % 4 = 0) (ins m c ⟨n, h⟩) (sum2 c n) else k0_pay12

theorem sum1_succ (c : Dev nD) (t : Fin cfg0.N) (u : Vec F S1024x1024 .f32) (hu : 0 < t.val → u = sum1 m c t.val) :
    next1 ((grid0.coords t 1).val = 0) (ins m c t) u = sum1 m c (t.val + 1) := by
  rw [sum1, dif_pos t.isLt]
  have e := (coords_eq t).1
  unfold next1
  by_cases h : t.val % 4 = 0
  · rw [if_pos (e.trans h), if_pos h]
  · rw [if_neg (fun h' => h (e.symm.trans h')), if_neg h, hu (by omega)]

theorem sum2_succ (c : Dev nD) (t : Fin cfg0.N) (u : Vec F S1024x1024 .f32) (hu : 0 < t.val → u = sum2 m c t.val) :
    next2 ((grid0.coords t 1).val = 0) (ins m c t) u = sum2 m c (t.val + 1) := by
  rw [sum2, dif_pos t.isLt]
  have e := (coords_eq t).1
  unfold next2
  by_cases h : t.val % 4 = 0
  · rw [if_pos (e.trans h), if_pos h]
  · rw [if_neg (fun h' => h (e.symm.trans h')), if_neg h, hu (by omega)]

attribute [local irreducible] iblk sum1 sum2

/-- Before point `n` the two sums are those of the points before it. -/
def kept (c : Dev nD) (n : ℕ) : sProp 𝕄 :=
  iprop((∃ u, ⌜0 < n → u = sum1 m c n⌝ ∗ owns (c : Thread nD τ) (Memref.whole cc0_scratch0) fullShare u)
    ∗ (∃ u, ⌜0 < n → u = sum2 m c n⌝ ∗ owns (c : Thread nD τ) (Memref.whole cc0_scratch1) fullShare u)
    ∗ (∃ u, owns (c : Thread nD τ) (Memref.whole cc0_scratch2) fullShare u) ∗ ∃ r, prngReg c r)

/-- What the launch is proved with: each array as the host code leaves it; every point leaves the input blocks as they
    were, and a slice's last point leaves the two sums in the results' blocks. Of the other results nothing is said. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun _ _ => True
    | ⟨9, _⟩ => fun _ X => t.val % 4 = 3 → X = k0_pay4 (sum1 m c (t.val + 1))
    | ⟨10, _⟩ => fun _ X => t.val % 4 = 3 → X = k0_pay5 (sum2 m c (t.val + 1))
    | ⟨11, _⟩ => fun _ _ => True
    | ⟨12, _⟩ => fun _ _ => True
  Φ t := kept m c t.val
  q _ := fullShare
  owed _ := 0

theorem A_eq (c : Dev nD) (w : Fin cfg0.W) : (rdat m c).A w = V m c (Pipeline.arrRef spec0 w) := by dsimp only [rdat]

/-- The staging buffers the body is called with at point `t`, and the three it keeps. -/
def bufs (t : Fin cfg0.N) : Bufs :=
  ⟨win0_0.stage (cfg0.slots t 0), hstage0_0 ((cfg0.slots t 0).cast nbuf0_0), win0_1.stage (cfg0.slots t 1), hstage0_1 ((cfg0.slots t 1).cast nbuf0_1),
    win0_2.stage (cfg0.slots t 2), hstage0_2 ((cfg0.slots t 2).cast nbuf0_2), win0_3.stage (cfg0.slots t 3), hstage0_3 ((cfg0.slots t 3).cast nbuf0_3),
    win0_4.stage (cfg0.slots t 4), hstage0_4 ((cfg0.slots t 4).cast nbuf0_4), win0_5.stage (cfg0.slots t 5), hstage0_5 ((cfg0.slots t 5).cast nbuf0_5),
    win0_6.stage (cfg0.slots t 6), hstage0_6 ((cfg0.slots t 6).cast nbuf0_6), win0_7.stage (cfg0.slots t 7), hstage0_7 ((cfg0.slots t 7).cast nbuf0_7),
    win0_8.stage (cfg0.slots t 8), hstage0_8 ((cfg0.slots t 8).cast nbuf0_8), win0_9.stage (cfg0.slots t 9), hstage0_9 ((cfg0.slots t 9).cast nbuf0_9),
    win0_10.stage (cfg0.slots t 10), hstage0_10 ((cfg0.slots t 10).cast nbuf0_10), win0_11.stage (cfg0.slots t 11), hstage0_11 ((cfg0.slots t 11).cast nbuf0_11),
    win0_12.stage (cfg0.slots t 12), hstage0_12 ((cfg0.slots t 12).cast nbuf0_12),
    Memref.whole cc0_scratch0, Memref.isWhole_whole _, Memref.whole cc0_scratch1, Memref.isWhole_whole _, Memref.whole cc0_scratch2, Memref.isWhole_whole _⟩

/-- What is found in the input buffers is the inputs' blocks. -/
theorem finds_0 (c : Dev nD) (t : Fin cfg0.N) (Y) (h : (rdat m c).Finds 0 t Y) : Y = iblk m c 0 t := by
  obtain ⟨d, h⟩ := RDat.finds_in_eq_fetched (rdat m c) 0 rfl (fun _ _ _ => rfl) (fun _ _ _ h => h) t Y h
  exact h.trans (by unfold RDat.fetched RDat.blockOf iblk; rw [A_eq]; try rfl)
theorem finds_1 (c : Dev nD) (t : Fin cfg0.N) (Y) (h : (rdat m c).Finds 1 t Y) : Y = iblk m c 1 t := by
  obtain ⟨d, h⟩ := RDat.finds_in_eq_fetched (rdat m c) 1 rfl (fun _ _ _ => rfl) (fun _ _ _ h => h) t Y h
  exact h.trans (by unfold RDat.fetched RDat.blockOf iblk; rw [A_eq]; try rfl)
theorem finds_2 (c : Dev nD) (t : Fin cfg0.N) (Y) (h : (rdat m c).Finds 2 t Y) : Y = iblk m c 2 t := by
  obtain ⟨d, h⟩ := RDat.finds_in_eq_fetched (rdat m c) 2 rfl (fun _ _ _ => rfl) (fun _ _ _ h => h) t Y h
  exact h.trans (by unfold RDat.fetched RDat.blockOf iblk; rw [A_eq]; try rfl)
theorem finds_3 (c : Dev nD) (t : Fin cfg0.N) (Y) (h : (rdat m c).Finds 3 t Y) : Y = iblk m c 3 t := by
  obtain ⟨d, h⟩ := RDat.finds_in_eq_fetched (rdat m c) 3 rfl (fun _ _ _ => rfl) (fun _ _ _ h => h) t Y h
  exact h.trans (by unfold RDat.fetched RDat.blockOf iblk; rw [A_eq]; try rfl)
theorem finds_4 (c : Dev nD) (t : Fin cfg0.N) (Y) (h : (rdat m c).Finds 4 t Y) : Y = iblk m c 4 t := by
  obtain ⟨d, h⟩ := RDat.finds_in_eq_fetched (rdat m c) 4 rfl (fun _ _ _ => rfl) (fun _ _ _ h => h) t Y h
  exact h.trans (by unfold RDat.fetched RDat.blockOf iblk; rw [A_eq]; try rfl)
theorem finds_5 (c : Dev nD) (t : Fin cfg0.N) (Y) (h : (rdat m c).Finds 5 t Y) : Y = iblk m c 5 t := by
  obtain ⟨d, h⟩ := RDat.finds_in_eq_fetched (rdat m c) 5 rfl (fun _ _ _ => rfl) (fun _ _ _ h => h) t Y h
  exact h.trans (by unfold RDat.fetched RDat.blockOf iblk; rw [A_eq]; try rfl)
theorem finds_6 (c : Dev nD) (t : Fin cfg0.N) (Y) (h : (rdat m c).Finds 6 t Y) : Y = iblk m c 6 t := by
  obtain ⟨d, h⟩ := RDat.finds_in_eq_fetched (rdat m c) 6 rfl (fun _ _ _ => rfl) (fun _ _ _ h => h) t Y h
  exact h.trans (by unfold RDat.fetched RDat.blockOf iblk; rw [A_eq]; try rfl)
theorem finds_7 (c : Dev nD) (t : Fin cfg0.N) (Y) (h : (rdat m c).Finds 7 t Y) : Y = iblk m c 7 t := by
  obtain ⟨d, h⟩ := RDat.finds_in_eq_fetched (rdat m c) 7 rfl (fun _ _ _ => rfl) (fun _ _ _ h => h) t Y h
  exact h.trans (by unfold RDat.fetched RDat.blockOf iblk; rw [A_eq]; try rfl)

/-- What a point may leave in the results' buffers. -/
theorem after_9 (c : Dev nD) (t : Fin cfg0.N) (Y X) : (rdat m c).after 9 t Y X = (t.val % 4 = 3 → X = k0_pay4 (sum1 m c (t.val + 1))) := rfl
theorem after_10 (c : Dev nD) (t : Fin cfg0.N) (Y X) : (rdat m c).after 10 t Y X = (t.val % 4 = 3 → X = k0_pay5 (sum2 m c (t.val + 1))) := rfl

/-- The input blocks in the buffers, window by window. -/
theorem holds_eq (c : Dev nD) (t : Fin cfg0.N) :
    (bufs t).holds c (ins m c t) = iprop(owns (c : Thread nD τ) ((cfg0.win 0).stage (cfg0.slots t 0)) fullShare (iblk m c 0 t)
      ∗ owns (c : Thread nD τ) ((cfg0.win 1).stage (cfg0.slots t 1)) fullShare (iblk m c 1 t)
      ∗ owns (c : Thread nD τ) ((cfg0.win 2).stage (cfg0.slots t 2)) fullShare (iblk m c 2 t)
      ∗ owns (c : Thread nD τ) ((cfg0.win 3).stage (cfg0.slots t 3)) fullShare (iblk m c 3 t)
      ∗ owns (c : Thread nD τ) ((cfg0.win 4).stage (cfg0.slots t 4)) fullShare (iblk m c 4 t)
      ∗ owns (c : Thread nD τ) ((cfg0.win 5).stage (cfg0.slots t 5)) fullShare (iblk m c 5 t)
      ∗ owns (c : Thread nD τ) ((cfg0.win 6).stage (cfg0.slots t 6)) fullShare (iblk m c 6 t)
      ∗ owns (c : Thread nD τ) ((cfg0.win 7).stage (cfg0.slots t 7)) fullShare (iblk m c 7 t)) := rfl

theorem owns_out (c : Dev nD) (t : Fin cfg0.N) (v) :
    (owns (c : Thread nD τ) (bufs t).out fullShare v : sProp 𝕄) = owns (c : Thread nD τ) ((cfg0.win 8).stage (cfg0.slots t 8)) fullShare v := rfl
theorem owns_g1 (c : Dev nD) (t : Fin cfg0.N) (v) :
    (owns (c : Thread nD τ) (bufs t).g1 fullShare v : sProp 𝕄) = owns (c : Thread nD τ) ((cfg0.win 9).stage (cfg0.slots t 9)) fullShare v := rfl
theorem owns_g2 (c : Dev nD) (t : Fin cfg0.N) (v) :
    (owns (c : Thread nD τ) (bufs t).g2 fullShare v : sProp 𝕄) = owns (c : Thread nD τ) ((cfg0.win 10).stage (cfg0.slots t 10)) fullShare v := rfl
theorem owns_dg (c : Dev nD) (t : Fin cfg0.N) (v) :
    (owns (c : Thread nD τ) (bufs t).dg fullShare v : sProp 𝕄) = owns (c : Thread nD τ) ((cfg0.win 11).stage (cfg0.slots t 11)) fullShare v := rfl
theorem owns_db (c : Dev nD) (t : Fin cfg0.N) (v) :
    (owns (c : Thread nD τ) (bufs t).db fullShare v : sProp 𝕄) = owns (c : Thread nD τ) ((cfg0.win 12).stage (cfg0.slots t 12)) fullShare v := rfl
theorem owns_acc1 (c : Dev nD) (t : Fin cfg0.N) (v) :
    (owns (c : Thread nD τ) (bufs t).acc1 fullShare v : sProp 𝕄) = owns (c : Thread nD τ) (Memref.whole cc0_scratch0) fullShare v := rfl
theorem owns_acc2 (c : Dev nD) (t : Fin cfg0.N) (v) :
    (owns (c : Thread nD τ) (bufs t).acc2 fullShare v : sProp 𝕄) = owns (c : Thread nD τ) (Memref.whole cc0_scratch1) fullShare v := rfl
theorem owns_dx (c : Dev nD) (t : Fin cfg0.N) (v) :
    (owns (c : Thread nD τ) (bufs t).dx fullShare v : sProp 𝕄) = owns (c : Thread nD τ) (Memref.whole cc0_scratch2) fullShare v := rfl

theorem keep (c : Dev nD) (t : Fin cfg0.N) :
    (rdat m c).Φ t.succ = kept m c (t.val + 1) ∧ (rdat m c).Φ t.castSucc = kept m c t.val
      ∧ (rdat m c).owesAt () t.succ = (rdat m c).owesAt () t.castSucc := ⟨rfl, rfl, rfl⟩

set_option maxHeartbeats 2000000 in
/-- The body at a point. -/
theorem sound (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
      ∗ bigSep Finset.univ fun w => owns (c : Thread nD τ) ((cfg0.win w).stage (cfg0.slots t w)) fullShare (Y w))
    ⊢ wp frame (wpE (defs₀ (F := F)) Variants.none c none) Set.univ ((bufs t).body (grid0.coords t)) fun _ =>
      iprop((rdat m c).Φ t.succ ∗ (rdat m c).owesAt () t.succ ∗ bigSep Finset.univ fun w =>
        iprop(∃ X, ⌜(rdat m c).after w t (Y w) X⌝ ∗ owns (c : Thread nD τ) ((cfg0.win w).stage (cfg0.slots t w)) fullShare X)) := by
  rw [bigSep_W0, bigSep_W0, (keep m c t).1, (keep m c t).2.1, (keep m c t).2.2]
  rw [finds_0 m c t _ (hY 0), finds_1 m c t _ (hY 1), finds_2 m c t _ (hY 2), finds_3 m c t _ (hY 3), finds_4 m c t _ (hY 4),
    finds_5 m c t _ (hY 5), finds_6 m c t _ (hY 6), finds_7 m c t _ (hY 7)]
  generalize Y 8 = Y8, Y 9 = Y9, Y 10 = Y10, Y 11 = Y11, Y 12 = Y12
  unfold kept
  iintro ⟨⟨⟨%u1, %hu1, S1⟩, ⟨%u2, %hu2, S2⟩, ⟨%u3, S3⟩, Hr⟩, Ho, H0, H1, H2, H3, H4, H5, H6, H7, H8, H9, H10, H11, H12⟩
  have hr := fun K => runs c (grid0.coords t) (bufs t) (ins m c t) u1 u2 Set.univ K
  unfold Left at hr
  simp only [sum1_succ m c t u1 hu1, sum2_succ m c t u2 hu2, (coords_eq t).1, holds_eq, owns_out, owns_g1, owns_g2, owns_dg, owns_db,
    owns_acc1, owns_acc2, owns_dx] at hr
  iapply hr
  isplitl [H0 H1 H2 H3 H4 H5 H6 H7]
  · iframe H0 H1 H2 H3 H4 H5 H6 H7
  isplitl [H8]; · iexists _; iexact H8
  isplitl [H9]; · iexists _; iexact H9
  isplitl [H10]; · iexists _; iexact H10
  isplitl [H11]; · iexists _; iexact H11
  isplitl [H12]; · iexists _; iexact H12
  isplitl [S1]; · iexact S1
  isplitl [S2]; · iexact S2
  isplitl [S3]; · iexists _; iexact S3
  iintro ⟨⟨H0, H1, H2, H3, H4, H5, H6, H7⟩, ⟨%d8, H8⟩, ⟨%d9, %h9, H9⟩, ⟨%d10, %h10, H10⟩, ⟨%d11, H11⟩, ⟨%d12, H12⟩, S1, S2, ⟨%d3, S3⟩⟩
  isplitl [S1 S2 S3 Hr]
  · isplitl [S1]
    · iexists _; isplitr; swap; (· iexact S1); ipureintro; exact fun _ => rfl
    isplitl [S2]
    · iexists _; isplitr; swap; (· iexact S2); ipureintro; exact fun _ => rfl
    isplitl [S3]; · iexists _; iexact S3
    iexact Hr
  isplitl [Ho]; · iexact Ho
  isplitl [H0]; · iexists _; isplitr; swap; (· iexact H0); ipureintro; exact (rfl : iblk m c 0 t = _)
  isplitl [H1]; · iexists _; isplitr; swap; (· iexact H1); ipureintro; exact (rfl : iblk m c 1 t = _)
  isplitl [H2]; · iexists _; isplitr; swap; (· iexact H2); ipureintro; exact (rfl : iblk m c 2 t = _)
  isplitl [H3]; · iexists _; isplitr; swap; (· iexact H3); ipureintro; exact (rfl : iblk m c 3 t = _)
  isplitl [H4]; · iexists _; isplitr; swap; (· iexact H4); ipureintro; exact (rfl : iblk m c 4 t = _)
  isplitl [H5]; · iexists _; isplitr; swap; (· iexact H5); ipureintro; exact (rfl : iblk m c 5 t = _)
  isplitl [H6]; · iexists _; isplitr; swap; (· iexact H6); ipureintro; exact (rfl : iblk m c 6 t = _)
  isplitl [H7]; · iexists _; isplitr; swap; (· iexact H7); ipureintro; exact (rfl : iblk m c 7 t = _)
  isplitl [H8]; · iexists _; isplitr; swap; (· iexact H8); ipureintro; exact trivial
  isplitl [H9]; · iexists _; isplitr; swap; (· iexact H9); ipureintro; exact h9
  isplitl [H10]; · iexists _; isplitr; swap; (· iexact H10); ipureintro; exact h10
  isplitl [H11]; · iexists _; isplitr; swap; (· iexact H11); ipureintro; exact trivial
  iexists _; isplitr; swap; (· iexact H12); ipureintro; exact trivial

theorem defs₀_row (t : Fin cfg0.N) : (defs₀ (F := F)) .tc cfg0.body (cfg0.bodyArgs t (cfg0.slots t)) = (bufs t).body (grid0.coords t) := by
  unfold defs₀
  rw [Defs.onTc_tc]
  rfl

theorem obligation (c : Dev nD) : (rdat m c).BodyObligation (defs₀ (F := F)) Variants.none () Set.univ := fun t Y hY => by
  rw [defs₀_row]
  exact sound m c t Y hY

theorem hin (c : Dev nD) : Pipeline.ΦA spec0 c ⊢ kept m c 0 := by
  unfold Pipeline.ΦA kept
  rw [scopedRest0_eq]
  simp only [owns_whole]
  iintro ⟨⟨⟨%f0, H0⟩, ⟨%f1, H1⟩, ⟨%f2, H2⟩⟩, Hr⟩
  isplitl [H0]; · iexists _; isplitr; swap; (· iexact H0); ipureintro; exact fun h => absurd h (by decide)
  isplitl [H1]; · iexists _; isplitr; swap; (· iexact H1); ipureintro; exact fun h => absurd h (by decide)
  isplitl [H2]; · iexists _; iexact H2
  iexact Hr

theorem hout (c : Dev nD) (n : ℕ) : kept m c n ⊢ Pipeline.ΦA spec0 c := by
  unfold Pipeline.ΦA kept
  rw [scopedRest0_eq]
  simp only [owns_whole]
  iintro ⟨⟨%f0, -, H0⟩, ⟨%f1, -, H1⟩, ⟨%f2, H2⟩, Hr⟩
  isplitr [Hr]
  · isplitl [H0]; · iexists _; iexact H0
    isplitl [H1]; · iexists _; iexact H1
    iexists _; iexact H2
  iexact Hr

set_option backward.isDefEq.respectTransparency.types false in
/-- The run of the program: every array of the launch ends as the points may have left it, and no semaphore is left raised. -/
theorem run_main : θ_run defs (onTc (τ := τ) (main (F := F))) (s₀ m ρ)
    (fun r => RDat.FramePost cfg0 (rdat m) (V m) r ∧ r.2.sem = fun _ => 0) :=
  RDat.θ_run_frame_track (Q' := _) cfgs (0 : Fin 1) launch0 defs₀ Variants.none (rdat m) m ρ main
    (hbody := fun c => obligation m c) (hshare := fun c => (rdat m c).share_full fun _ => rfl)
    (howed := fun _ _ => rfl) (V := V m) (hmain := hmain m Variants.none) (hA := A_eq m)
    (hin := fun c => hin m c) (hout := fun c => hout m c _)

/-- The arguments end as they were. -/
theorem args_kept (r : PUnit × MemSt nD τ sig (Elt F)) (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    (RDat.FramePost.arr_in h c 0 rfl).trans ((A_eq m c 0).trans (V_main_arg5 m c))⟩

end Cert.Kernel3Ideal.Back

end
-- ==== Proof.BackMath.lean ====
/- The gradients of the feed-forward part's two weights as functions of its arguments, and the reference's results, entry by entry. -/
module

public import proofs.«01_k».proof.Proof.Gen.Reference3Ideal
public import proofs.«01_k».proof.Proof.Gen.Reference3Ideal.Run
public import Idealize.ShloMosaic.PureOps.Ideal
public import Idealize.ShloMosaic.Lib.Pipeline.ValueKit.Point

@[expose] public section

set_option maxRecDepth 16384

noncomputable section

namespace Cert.Back

open Idealize.ShloMosaic

/-- The rows before the norm, the two weights, the norm's scale and shift, and the gradient that comes in. -/
structure Args where
  z : Fin 2048 → Fin 1024 → EReal
  w1 : Fin 1024 → Fin 4096 → EReal
  w2 : Fin 4096 → Fin 1024 → EReal
  g : Fin 1024 → EReal
  b : Fin 1024 → EReal
  dy : Fin 2048 → Fin 1024 → EReal

/-- Where quarter `s` of the hidden layer begins. -/
def col (s : Fin 4) (j : Fin 1024) : Fin 4096 := ⟨s.val * 1024 + j.val, by omega⟩

/-- Where tile `i` of the rows begins. -/
def row (i : Fin 4) (r : Fin 512) : Fin 2048 := ⟨i.val * 512 + r.val, by omega⟩

/-- A sum over the rows, a tile at a time. -/
theorem tiles (f : Fin 2048 → EReal) :
    0 + (∑ r, f (row 0 r)) + (∑ r, f (row 1 r)) + (∑ r, f (row 2 r)) + (∑ r, f (row 3 r)) = ∑ r, f r := by
  have h : ∑ r, f r = ∑ i : Fin 4, ∑ r : Fin 512, f (row i r) := by
    rw [← (finProdFinEquiv (m := 4) (n := 512)).sum_comp (fun r => f r), Fintype.sum_prod_type]
    refine Finset.sum_congr rfl fun i _ => Finset.sum_congr rfl fun r _ => congrArg f (Fin.ext ?_)
    show r.val + 512 * i.val = i.val * 512 + r.val
    omega
  rw [h, Fin.sum_univ_four, zero_add]

namespace Args

variable (A : Args) (r : Fin 2048)

/-- The row length, as the norm divides by it. -/
def len : EReal := Ideal.ofBits .f32 0x44800000#32

/-- A row's distance from its mean. -/
def zc (d : Fin 1024) : EReal := A.z r d - Ideal.div (∑ e : Fin 1024, A.z r e) len

/-- One over the standard deviation of a row. -/
def rstd : EReal := Ideal.rsqrt (Ideal.div (∑ d : Fin 1024, A.zc r d * A.zc r d) len + Ideal.ofBits .f32 0x3727C5AC#32)

/-- The normed rows, scaled and shifted: what the feed-forward part takes. -/
def y (d : Fin 1024) : EReal := A.zc r d * A.rstd r * A.g d + A.b d

/-- The first product, -/
def pre (j : Fin 4096) : EReal := ∑ k : Fin 1024, A.y r k * A.w1 k j

/-- and its positive part, the hidden layer. -/
def hid (j : Fin 4096) : EReal := max (A.pre r j) 0

/-- The gradient of the first product: twice the hidden layer by the gradient of its square. -/
def dpre (j : Fin 4096) : EReal := (∑ d : Fin 1024, A.dy r d * A.w2 j d) * (Ideal.ofBits .f32 0x40000000#32 * A.hid r j)

/-- The gradient of the first weight. -/
def dw1 (k : Fin 1024) (j : Fin 4096) : EReal := ∑ r : Fin 2048, A.y r k * A.dpre r j

/-- The gradient of the second weight. -/
def dw2 (j : Fin 4096) (d : Fin 1024) : EReal := ∑ r : Fin 2048, A.hid r j * A.hid r j * A.dy r d

/-- Where the first product is not positive, its gradient is zero as it stands. -/
theorem dpre_of (j : Fin 4096) (h : ¬0 < A.pre r j) : A.dpre r j = 0 := by
  unfold dpre hid
  rw [max_eq_right (not_lt.mp h), mul_zero, mul_zero]

end Args

end Cert.Back

namespace Cert.Reference3Ideal.Back

open Idealize.ShloMosaic Idealize.ShloMosaic.TcCoe Idealize.ShloMosaic.Tactic Idealize.ShloMosaic.StableHlo
open Idealize.SL.Sem
open Cert.Back Cert.Reference3Ideal Cert.Reference3Ideal.Gen Cert.Reference3Ideal.Value

variable (m : (ℓ : Loc nD τ sig) → Buf (Elt Ideal) ℓ) (c : Dev nD)

/-- The arguments' entries. -/
def args : Args where
  z r k := m ((c.tc : Thread nD τ).loc main_arg0) (ix2 r k)
  w1 k j := m ((c.tc : Thread nD τ).loc main_arg1) (ix2 k j)
  w2 j d := m ((c.tc : Thread nD τ).loc main_arg2) (ix2 j d)
  g d := m ((c.tc : Thread nD τ).loc main_arg3) (ix1 d)
  b d := m ((c.tc : Thread nD τ).loc main_arg4) (ix1 d)
  dy r d := m ((c.tc : Thread nD τ).loc main_arg5) (ix2 r d)

theorem dw2_at (s : Fin 4) (j d : Fin 1024) : res_out1 m c (ix3 s j d) = (args m c).dw2 (col s j) d := by
  pointwise [res_main_v48]
  show @Eq EReal _ _
  refine Finset.sum_congr rfl fun r _ => ?_
  exact mul_comm ((args m c).dy r d) ((args m c).hid r (col s j) * (args m c).hid r (col s j))

theorem dw1_at (s : Fin 4) (k j : Fin 1024) : res_out0 m c (ix3 s k j) = (args m c).dw1 k (col s j) := by
  pointwise [res_main_v46]
  show @Eq EReal _ _
  refine Finset.sum_congr rfl fun r _ => ?_
  refine Eq.trans (b := (args m c).dpre r (col s j) * (args m c).y r k) (congrArg₂ _ ?_ rfl) (mul_comm _ _)
  split
  · rfl
  · rename_i hn
    exact ((args m c).dpre_of r _ hn).symm

/-- The reference's run, with its results as these functions. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v46) = (fun i : S4x1024x1024.Idx => (args m c).dw1 (i 1) (col (i 0) (i 2)))
      ∧ r.2.mem ((c.tc : Thread nD τ).loc main_v48) = (fun i : S4x1024x1024.Idx => (args m c).dw2 (col (i 0) (i 1)) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c =>
    ⟨(h c).1.trans (funext fun i => (congrArg _ (eq_ix3 i)).trans (dw1_at m c _ _ _)),
      (h c).2.1.trans (funext fun i => (congrArg _ (eq_ix3 i)).trans (dw2_at m c _ _ _)), (h c).2.2⟩) (Value.run m g)

end Cert.Reference3Ideal.Back
-- ==== Proof.BackOut.lean ====
/- What the feed-forward backward call reads and what its launch leaves in the weights' gradients. -/
module

public import proofs.«01_k».proof.Proof.BackLeg
public import proofs.«01_k».proof.Proof.BackMath

@[expose] public section

set_option maxRecDepth 16384

noncomputable section

namespace Cert.Kernel3Ideal.Back

open Idealize.ShloMosaic Idealize.ShloMosaic.TcCoe Idealize.ShloMosaic.Tactic
open Idealize.SL.Sem
open Idealize.ShloMosaic.Pipeline (RDat)
open Cert.Back Cert.Kernel3Ideal Cert.Kernel3Ideal.Gen

variable (m : (ℓ : Loc nD τ sig) → Buf (Elt Ideal) ℓ) (c : Dev nD)

/-- The arguments' entries. -/
def args : Args where
  z r k := m ((c.tc : Thread nD τ).loc main_arg0) (ix2 r k)
  w1 k j := m ((c.tc : Thread nD τ).loc main_arg1) (ix2 k j)
  w2 j d := m ((c.tc : Thread nD τ).loc main_arg2) (ix2 j d)
  g d := m ((c.tc : Thread nD τ).loc main_arg3) (ix1 d)
  b d := m ((c.tc : Thread nD τ).loc main_arg4) (ix1 d)
  dy r d := m ((c.tc : Thread nD τ).loc main_arg5) (ix2 r d)

/-! What the host code hands over. -/

theorem host_w2 (s : Fin 4) (k d : Fin 1024) : (V m c main_v31 (ix3 s k d) : EReal) = (args m c).w2 (col s k) d := by
  have h : V m c main_v31 = (shapeCast S4x1024x1024
      (truncf .bf16 (m ((c.tc : Thread nD τ).loc main_arg2) : FVec Ideal S4096x1024 .f32) bitsLt_bf16_f32 : FVec Ideal S4096x1024 .bf16) shapeCasts_S4096x1024_S4x1024x1024
      : FVec Ideal S4x1024x1024 .bf16) := by
    simp only [V, hostOps0, hostOps0_1, hostOps0_2, List.flatten_cons, List.flatten_nil, List.append_nil, List.cons_append, List.nil_append,
      StableHlo.TRef.binary, StableHlo.TRef.nullary, StableHlo.TRef.unary, StableHlo.TRef.toBuf, StableHlo.TRef.ofBuf, cast_eq]
    after_results_simp
    rfl
  refine (congrFun h _).trans ?_
  pointwise
  rfl

theorem host_y (r : Fin 2048) (k : Fin 1024) : (V m c main_v23 (ix2 r k) : EReal) = (args m c).y r k := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise
  rfl

theorem host_hid (r : Fin 2048) (j : Fin 4096) : (V m c main_v26 (ix2 r j) : EReal) = (args m c).hid r j := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  pointwise
  rfl

/-! Which block each window reads or writes at a point. -/

theorem idx : ∀ t : Fin cfg0.N,
    win0_0.index t = ![t.val % 4, 0] ∧ win0_1.index t = ![t.val % 4, t.val / 4] ∧ win0_2.index t = ![t.val % 4, 0]
    ∧ win0_4.index t = ![t.val / 4, 0, 0] ∧ win0_9.index t = ![t.val / 4, 0, 0] ∧ win0_10.index t = ![t.val / 4, 0, 0] := by
  decide +kernel

/-- The tile of a point, -/
def tile (t : Fin cfg0.N) : Fin 4 := ⟨t.val % 4, by omega⟩

/-- and its slice. -/
def slice (t : Fin cfg0.N) : Fin 4 := ⟨t.val / 4, by have := t.isLt; have hN : cfg0.N = 16 := N_0; omega⟩

theorem blk_dz (t : Fin cfg0.N) (r : Fin 512) (d : Fin 1024) : (iblk m c 0 t (ix2 r d) : EReal) = (args m c).dy (row (tile t) r) d := by
  have h : ∀ X : FVec Ideal S2048x1024 .f32, ((cfg0.win 0).blk t).view.read (Elt Ideal) X (ix2 r d) = X (ix2 (row (tile t) r) d) := by
    intro X
    blk_ext [idx t, row, tile]
  exact (h _).trans (congrFun (V_main_arg5 m c) _)

theorem blk_relu (t : Fin cfg0.N) (r : Fin 512) (j : Fin 1024) : (iblk m c 1 t (ix2 r j) : EReal) = (args m c).hid (row (tile t) r) (col (slice t) j) := by
  have h : ∀ X : FVec Ideal S2048x4096 .bf16, ((cfg0.win 1).blk t).view.read (Elt Ideal) X (ix2 r j) = X (ix2 (row (tile t) r) (col (slice t) j)) := by
    intro X
    blk_ext [idx t, row, tile, col, slice]
  exact (h _).trans (host_hid m c _ _)

theorem blk_x (t : Fin cfg0.N) (r : Fin 512) (k : Fin 1024) : (iblk m c 2 t (ix2 r k) : EReal) = (args m c).y (row (tile t) r) k := by
  have h : ∀ X : FVec Ideal S2048x1024 .f32, ((cfg0.win 2).blk t).view.read (Elt Ideal) X (ix2 r k) = X (ix2 (row (tile t) r) k) := by
    intro X
    blk_ext [idx t, row, tile]
  exact (h _).trans (host_y m c _ _)

theorem blk_w2 (t : Fin cfg0.N) (j d : Fin 1024) : (iblk m c 4 t (ix3 0 j d) : EReal) = (args m c).w2 (col (slice t) j) d := by
  have h : ∀ X : FVec Ideal S4x1024x1024 .bf16, ((cfg0.win 4).blk t).view.read (Elt Ideal) X (ix3 0 j d) = X (ix3 (slice t) j d) := by
    intro X
    blk_ext [idx t, slice]
  exact (h _).trans (host_w2 m c _ _ _)

/-! What a point adds to the sums. -/

theorem pay2_at (p : FVec Ideal S1024x1024 .f32) (a : Vec Ideal S1024x1024 .f32) (k j : Fin 1024) :
    k0_pay2 p a (ix2 k j) = (a (ix2 k j) : EReal) + p (ix2 k j) := by
  pointwise [k0_pay2]

theorem pay3_at (p : FVec Ideal S1024x1024 .f32) (a : Vec Ideal S1024x1024 .f32) (k j : Fin 1024) :
    k0_pay3 p a (ix2 k j) = (a (ix2 k j) : EReal) + p (ix2 k j) := by
  pointwise [k0_pay3]

theorem pay4_at (a : Vec Ideal S1024x1024 .f32) (k j : Fin 1024) : k0_pay4 a (ix3 0 k j) = (a (ix2 k j) : EReal) := by
  pointwise [k0_pay4]

theorem pay5_at (a : Vec Ideal S1024x1024 .f32) (k j : Fin 1024) : k0_pay5 a (ix3 0 k j) = (a (ix2 k j) : EReal) := by
  pointwise [k0_pay5]

theorem pay11_at (k j : Fin 1024) : (k0_pay11 (F := Ideal)) (ix2 k j) = (0 : EReal) := by
  pointwise [k0_pay11]

theorem pay12_at (k j : Fin 1024) : (k0_pay12 (F := Ideal)) (ix2 k j) = (0 : EReal) := by
  pointwise [k0_pay12]

theorem pay18_at (dz : Vec Ideal S512x1024 .f32) (relu : Vec Ideal S512x1024 .bf16) (w2 : Vec Ideal S1x1024x1024 .bf16) (r : Fin 512) (j : Fin 1024) :
    k0_pay18 dz relu w2 (ix2 r j)
      = (∑ d : Fin 1024, (dz (ix2 r d) : EReal) * w2 (ix3 0 j d)) * (Ideal.ofBits .f32 0x40000000#32 * relu (ix2 r j)) := by
  pointwise [k0_pay18, k0_pay16, k0_pay17]

theorem pay20_at (dz : Vec Ideal S512x1024 .f32) (relu : Vec Ideal S512x1024 .bf16) (w2 : Vec Ideal S1x1024x1024 .bf16)
    (x : Vec Ideal S512x1024 .f32) (k j : Fin 1024) :
    k0_pay20 dz relu w2 x (ix2 k j) = ∑ r : Fin 512, (x (ix2 r k) : EReal) * k0_pay18 dz relu w2 (ix2 r j) := by
  pointwise [k0_pay20]

theorem pay19_at (dz : Vec Ideal S512x1024 .f32) (relu : Vec Ideal S512x1024 .bf16) (j d : Fin 1024) :
    k0_pay19 dz relu (ix2 j d) = ∑ r : Fin 512, (relu (ix2 r j) : EReal) * relu (ix2 r j) * dz (ix2 r d) := by
  pointwise [k0_pay19, k0_pay16, k0_pay17]

theorem next1_at (t : Fin cfg0.N) (p : Prop) [Decidable p] (u : Vec Ideal S1024x1024 .f32) (k j : Fin 1024) :
    (next1 p (ins m c t) u (ix2 k j) : EReal)
      = (if p then 0 else (u (ix2 k j) : EReal)) + ∑ r : Fin 512, (args m c).y (row (tile t) r) k * (args m c).dpre (row (tile t) r) (col (slice t) j) := by
  refine (pay2_at _ _ _ _).trans (congrArg₂ _ ?_ ((pay20_at _ _ _ _ _ _).trans (Finset.sum_congr rfl fun r _ => congrArg₂ _ (blk_x m c t r k) ?_)))
  · split
    · exact pay11_at k j
    · rfl
  · refine (pay18_at _ _ _ _ _).trans (congrArg₂ _ (Finset.sum_congr rfl fun d _ => congrArg₂ _ (blk_dz m c t r d) (blk_w2 m c t j d)) ?_)
    exact congrArg _ (blk_relu m c t r j)

theorem next2_at (t : Fin cfg0.N) (p : Prop) [Decidable p] (u : Vec Ideal S1024x1024 .f32) (j d : Fin 1024) :
    (next2 p (ins m c t) u (ix2 j d) : EReal)
      = (if p then 0 else (u (ix2 j d) : EReal)) + ∑ r : Fin 512, (args m c).hid (row (tile t) r) (col (slice t) j)
          * (args m c).hid (row (tile t) r) (col (slice t) j) * (args m c).dy (row (tile t) r) d := by
  refine (pay3_at _ _ _ _).trans (congrArg₂ _ ?_ ((pay19_at _ _ _ _).trans (Finset.sum_congr rfl fun r _ =>
    congrArg₂ _ (congrArg₂ _ (blk_relu m c t r j) (blk_relu m c t r j)) (blk_dz m c t r d))))
  split
  · exact pay12_at j d
  · rfl

/-! The sums at a slice's end. -/

theorem point_lt (s i : Fin 4) : 4 * s.val + i.val < cfg0.N := by have hN : cfg0.N = 16 := N_0; omega

/-- Tile `i` of slice `s`. -/
def point (s i : Fin 4) : Fin cfg0.N := ⟨4 * s.val + i.val, point_lt s i⟩

theorem tile_point (s i : Fin 4) : tile (point s i) = i := Fin.ext (by show (4 * s.val + i.val) % 4 = i.val; omega)

theorem slice_point (s i : Fin 4) : slice (point s i) = s := Fin.ext (by show (4 * s.val + i.val) / 4 = s.val; omega)

theorem step1 (s i : Fin 4) (k j : Fin 1024) :
    (sum1 m c (4 * s.val + i.val + 1) (ix2 k j) : EReal) = (if i.val = 0 then 0 else (sum1 m c (4 * s.val + i.val) (ix2 k j) : EReal))
      + ∑ r : Fin 512, (args m c).y (row i r) k * (args m c).dpre (row i r) (col s j) := by
  have h := next1_at m c (point s i) ((4 * s.val + i.val) % 4 = 0) (sum1 m c (4 * s.val + i.val)) k j
  rw [tile_point, slice_point] at h
  have e : ((4 * s.val + i.val) % 4 = 0) = (i.val = 0) := propext (by omega)
  refine (congrFun (?_ : sum1 m c (4 * s.val + i.val + 1) = next1 ((4 * s.val + i.val) % 4 = 0) (ins m c (point s i)) (sum1 m c (4 * s.val + i.val))) _).trans
    (h.trans ?_)
  · rw [sum1, dif_pos (point_lt s i)]
    rfl
  · congr 1
    simp only [e]

theorem step2 (s i : Fin 4) (j d : Fin 1024) :
    (sum2 m c (4 * s.val + i.val + 1) (ix2 j d) : EReal) = (if i.val = 0 then 0 else (sum2 m c (4 * s.val + i.val) (ix2 j d) : EReal))
      + ∑ r : Fin 512, (args m c).hid (row i r) (col s j) * (args m c).hid (row i r) (col s j) * (args m c).dy (row i r) d := by
  have h := next2_at m c (point s i) ((4 * s.val + i.val) % 4 = 0) (sum2 m c (4 * s.val + i.val)) j d
  rw [tile_point, slice_point] at h
  have e : ((4 * s.val + i.val) % 4 = 0) = (i.val = 0) := propext (by omega)
  refine (congrFun (?_ : sum2 m c (4 * s.val + i.val + 1) = next2 ((4 * s.val + i.val) % 4 = 0) (ins m c (point s i)) (sum2 m c (4 * s.val + i.val))) _).trans
    (h.trans ?_)
  · rw [sum2, dif_pos (point_lt s i)]
    rfl
  · congr 1
    simp only [e]

theorem sum1_at (s : Fin 4) (k j : Fin 1024) : (sum1 m c (4 * s.val + 4) (ix2 k j) : EReal) = (args m c).dw1 k (col s j) := by
  have h0 := step1 m c s 0 k j
  have h1 := step1 m c s 1 k j
  have h2 := step1 m c s 2 k j
  have h3 := step1 m c s 3 k j
  rw [if_pos (show ((0 : Fin 4).val = 0) from rfl)] at h0
  rw [if_neg (show ¬((1 : Fin 4).val = 0) by decide)] at h1
  rw [if_neg (show ¬((2 : Fin 4).val = 0) by decide)] at h2
  rw [if_neg (show ¬((3 : Fin 4).val = 0) by decide)] at h3
  refine h3.trans (Eq.trans ?_ (tiles fun r => (args m c).y r k * (args m c).dpre r (col s j)))
  refine congrArg (· + _) (h2.trans (congrArg (· + _) (h1.trans (congrArg (· + _) h0))))

theorem sum2_at (s : Fin 4) (j d : Fin 1024) : (sum2 m c (4 * s.val + 4) (ix2 j d) : EReal) = (args m c).dw2 (col s j) d := by
  have h0 := step2 m c s 0 j d
  have h1 := step2 m c s 1 j d
  have h2 := step2 m c s 2 j d
  have h3 := step2 m c s 3 j d
  rw [if_pos (show ((0 : Fin 4).val = 0) from rfl)] at h0
  rw [if_neg (show ¬((1 : Fin 4).val = 0) by decide)] at h1
  rw [if_neg (show ¬((2 : Fin 4).val = 0) by decide)] at h2
  rw [if_neg (show ¬((3 : Fin 4).val = 0) by decide)] at h3
  refine h3.trans (Eq.trans ?_ (tiles fun r => (args m c).hid r (col s j) * (args m c).hid r (col s j) * (args m c).dy r d))
  refine congrArg (· + _) (h2.trans (congrArg (· + _) (h1.trans (congrArg (· + _) h0))))

/-! What the launch leaves in the two gradients. -/

variable (r : PUnit × MemSt nD τ sig (Elt Ideal)) (h : RDat.FramePost cfg0 (rdat m) (V m) r)

theorem last_point (t : Fin cfg0.N) (ht : t.val % 4 = 3) : t.val + 1 = 4 * (slice t).val + 4 := by
  show t.val + 1 = 4 * (t.val / 4) + 4
  omega

include h in
theorem out_g1 : r.2.mem ((c.tc : Thread nD τ).loc main_v33_1) = fun i : S4x1024x1024.Idx => ((args m c).dw1 (i 1) (col (i 0) (i 2)) : EReal) := by
  obtain ⟨after, hL, hA⟩ := RDat.FramePost.exists_exact h c
  refine (hA 9).trans ?_
  refine ((rdat m c).withAfter after).arrAt_eq_of_covers 9 _ (by decide +kernel) fun t hf i => ?_
  have ht := (flush0_9 t).mp hf
  obtain ⟨Y, -, hX⟩ := hL 9 t hf
  have hX' : after 9 t = k0_pay4 (sum1 m c (t.val + 1)) := hX ht
  have h0 : ((((cfg0.win 9).blk t).view.emb i) 0).val = t.val / 4 := by
    blk_simp [idx t]
  have h1 : ((((cfg0.win 9).blk t).view.emb i) 1).val = (i 1).val := by
    blk_simp [idx t]
  have h2 : ((((cfg0.win 9).blk t).view.emb i) 2).val = (i 2).val := by
    blk_simp [idx t]
  refine (congrFun hX' i).trans ((congrArg _ (Eq.trans (eq_ix3 i) (congrArg (fun a : Fin 1 => ix3 a (i 1) (i 2)) (Subsingleton.elim _ 0)))).trans ?_)
  refine (pay4_at _ _ _).trans ?_
  rw [last_point t ht]
  refine (sum1_at m c _ _ _).trans (congrArg₂ _ (Fin.ext h1.symm) (congrArg₂ _ (Fin.ext h0.symm) (Fin.ext h2.symm)))

include h in
theorem out_g2 : r.2.mem ((c.tc : Thread nD τ).loc main_v33_2) = fun i : S4x1024x1024.Idx => ((args m c).dw2 (col (i 0) (i 1)) (i 2) : EReal) := by
  obtain ⟨after, hL, hA⟩ := RDat.FramePost.exists_exact h c
  refine (hA 10).trans ?_
  refine ((rdat m c).withAfter after).arrAt_eq_of_covers 10 _ (by decide +kernel) fun t hf i => ?_
  have ht := (flush0_10 t).mp hf
  obtain ⟨Y, -, hX⟩ := hL 10 t hf
  have hX' : after 10 t = k0_pay5 (sum2 m c (t.val + 1)) := hX ht
  have h0 : ((((cfg0.win 10).blk t).view.emb i) 0).val = t.val / 4 := by
    blk_simp [idx t]
  have h1 : ((((cfg0.win 10).blk t).view.emb i) 1).val = (i 1).val := by
    blk_simp [idx t]
  have h2 : ((((cfg0.win 10).blk t).view.emb i) 2).val = (i 2).val := by
    blk_simp [idx t]
  refine (congrFun hX' i).trans ((congrArg _ (Eq.trans (eq_ix3 i) (congrArg (fun a : Fin 1 => ix3 a (i 1) (i 2)) (Subsingleton.elim _ 0)))).trans ?_)
  refine (pay5_at _ _ _).trans ?_
  rw [last_point t ht]
  refine (sum2_at m c _ _ _).trans (congrArg₂ _ (congrArg₂ _ (Fin.ext h0.symm) (Fin.ext h1.symm)) (Fin.ext h2.symm))

end Cert.Kernel3Ideal.Back
-- ==== Proof.lean ====
/- The claims: both programs run to the end and leave their arguments, and over the reals the kernel's gradients are the
   reference's, and so are its feed-forward part and the gradients of that part's weights. -/
module

public import proofs.«01_k».proof.Defs
public import proofs.«01_k».proof.Proof.Gen.Kernel
public import proofs.«01_k».proof.Proof.Gen.Kernel.Frame
public import proofs.«01_k».proof.Proof.Gen.Kernel.Skeleton
public import proofs.«01_k».proof.Proof.Gen.KernelIdeal
public import proofs.«01_k».proof.Proof.Gen.KernelIdeal.Frame
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Pre_finite
public import proofs.«01_k».proof.Proof.Sum
public import proofs.«01_k».proof.Proof.Finite
public import proofs.«01_k».proof.Proof.Words
public import proofs.«01_k».proof.Proof.MlpOut
public import proofs.«01_k».proof.Proof.BackOut

@[expose] public section

set_option maxRecDepth 16384

noncomputable section

namespace Cert.Proof

open Idealize.ShloMosaic Idealize.ShloMosaic.TcCoe Idealize.ShloMosaic.StableHlo
open Idealize.SL.Sem
open Cert.Attn

/-- The kernel over the reals runs to the end and leaves its arguments. -/
theorem frame : Cert.quiescent_KernelIdeal := fun m ρ _ =>
  θ_run_and (Cert.KernelIdeal.Gen.frame_of m ρ (Cert.KernelIdeal.Attn.dats m) (Cert.KernelIdeal.Attn.A_eq m)
      ((θ_run _ _ _).mono (fun _ h => h.1) (Cert.KernelIdeal.Attn.runs m ρ)))
    ((θ_run _ _ _).mono (fun _ h => h.2) (Cert.KernelIdeal.Attn.runs m ρ))

/-- So does the reference. -/
theorem plain : Cert.quiescent_ReferenceIdeal := fun m ρ _ =>
  (θ_run Cert.ReferenceIdeal.defs _ _).mono
    (fun r h => ⟨fun c => (h c).2.2.2, sem_eq_zero_of_no_sems (by decide) r.2⟩) (Cert.ReferenceIdeal.Value.run m ρ)

/-- The real numbers of six arrays. -/
def real (a b : FVec Ideal ⟨2, ![2048, 2048]⟩ .f32) (d : FVec Ideal ⟨2, ![2048, 128]⟩ .f32) (e f : FVec Ideal ⟨2, ![2048, 32]⟩ .f32)
    (g : FVec Ideal ⟨2, ![2048, 1024]⟩ .f32) : Args where
  q r l := (a (ix2 r l) : EReal).toReal
  kv r l := (b (ix2 r l) : EReal).toReal
  kp r l := (d (ix2 r l) : EReal).toReal
  cos r l := (e (ix2 r l) : EReal).toReal
  sin r l := (f (ix2 r l) : EReal).toReal
  go r l := (g (ix2 r l) : EReal).toReal

theorem algebraic : Cert.algebraic_KernelIdeal_ReferenceIdeal_pre_finite := by
  intro m ρ m' ρ' hp hs
  let A (c : Dev Cert.KernelIdeal.nD) : Args := real
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
  have S (c) : Cert.KernelIdeal.Attn.Same (fun b => m (c, b)) (launchContents m' c) := by
    obtain ⟨h0, h1, h2, h3, h4, h5⟩ := hs c
    exact ⟨h0.symm, h1.symm, h2.symm, h3.symm, h4.symm, h5.symm⟩
  have H (c) : Cert.ReferenceIdeal.Attn.Reads (launchContents m' c) (A c) := by
    obtain ⟨h0, h1, h2, h3, h4, h5⟩ := hs c
    obtain ⟨k0, k1, k2, k3, k4, k5⟩ := finite_args (hp c)
    exact ⟨fun r l => (congrFun h0 _).trans (k0 _), fun r l => (congrFun h1 _).trans (k1 _), fun r l => (congrFun h2 _).trans (k2 _),
      fun r l => (congrFun h3 _).trans (k3 _), fun r l => (congrFun h4 _).trans (k4 _), fun r l => (congrFun h5 _).trans (k5 _)⟩
  refine ⟨fun c y => (((A c).dq (y 0) (y 1) : ℝ) : EReal), fun c y => (((A c).dkv (y 0) (y 1) : ℝ) : EReal),
    fun c y => (((A c).dkp (y 0) (y 1) : ℝ) : EReal), ?_, ?_⟩
  · refine (θ_run _ _ _).mono (fun r h c => ?_)
      (θ_run_and (Cert.KernelIdeal.Attn.runs m ρ) (frame m ρ trivial))
    exact ⟨((h.1.1 c).1 9).trans (Cert.KernelIdeal.Attn.out_dq m c (S c) (H c)),
      ((h.1.1 c).1 10).trans (Cert.KernelIdeal.Attn.out_dkv m c (S c) (H c)),
      ((h.1.1 c).1 11).trans (Cert.KernelIdeal.Attn.out_dkp m c (S c) (H c)), h.2.1 c⟩
  · refine (θ_run _ _ _).mono (fun r h c => ?_) (Cert.ReferenceIdeal.Value.run m' ρ')
    refine ⟨?_, ?_, ?_, (h c).2.2.2⟩
    · refine ((h c).1.trans (Cert.ReferenceIdeal.Value.val3_main_v122 _).symm).trans (funext fun y => ?_)
      exact (congrArg _ (eq_ix2 y)).trans (Cert.ReferenceIdeal.Attn.dq_at (H c) _ _)
    · refine ((h c).2.1.trans (Cert.ReferenceIdeal.Value.val3_main_v121 _).symm).trans (funext fun y => ?_)
      exact (congrArg _ (eq_ix2 y)).trans (Cert.ReferenceIdeal.Attn.dkv_at (H c) _ _)
    · refine ((h c).2.2.1.trans (Cert.ReferenceIdeal.Value.val3_main_v98 _).symm).trans (funext fun y => ?_)
      exact (congrArg _ (eq_ix2 y)).trans (Cert.ReferenceIdeal.Attn.dkp_at (H c) _ _)

/-- The second reference runs to the end and leaves its arguments. -/
theorem plain2 : Cert.quiescent_Reference2Ideal := fun m ρ _ =>
  (θ_run Cert.Reference2Ideal.defs _ _).mono
    (fun r h => ⟨fun c => (h c).2.2.2.2, sem_eq_zero_of_no_sems (by decide) r.2⟩) (Cert.Reference2Ideal.Value.run m ρ)

theorem algebraic2 : Cert.algebraic_Kernel2Ideal_Reference2Ideal := by
  intro m ρ m' ρ' _ hs
  have E (c) : Cert.Reference2Ideal.Mlp.args m' c = Cert.Kernel2Ideal.Mlp.args m c := by
    obtain ⟨h0, h1, h2, h3, h4⟩ := hs c
    unfold Cert.Reference2Ideal.Mlp.args Cert.Kernel2Ideal.Mlp.args
    congr 1
    · exact funext fun r => funext fun k => congrFun h0 _
    · exact funext fun k => funext fun j => congrFun h1 _
    · exact funext fun j => funext fun d => congrFun h2 _
    · exact funext fun d => congrFun h3 _
    · exact funext fun d => congrFun h4 _
  let A (c : Dev Cert.Kernel2Ideal.nD) : Cert.Mlp.Args := Cert.Kernel2Ideal.Mlp.args m c
  refine ⟨fun c i => (A c).y (i 0) (i 1), fun c i => (A c).xhat (i 0) (i 1), fun c i => (A c).rstd (i 0), fun c i => (A c).hid (i 0) (i 1), ?_, ?_⟩
  · refine (θ_run _ _ _).mono (fun r h c => ?_) (Cert.Kernel2Ideal.Value.run_blocks m ρ)
    obtain ⟨k0, k1, k2, k3, ka⟩ := h c
    exact ⟨k0.trans (Cert.Kernel2Ideal.Mlp.arr_5 m c), k1.trans (Cert.Kernel2Ideal.Mlp.arr_6 m c), k2.trans (Cert.Kernel2Ideal.Mlp.arr_7 m c),
      k3.trans (Cert.Kernel2Ideal.Mlp.arr_8 m c), ka⟩
  · refine (θ_run _ _ _).mono (fun r h c => ?_) (Cert.Reference2Ideal.Mlp.run m' ρ')
    have hc := h c
    rw [E c] at hc
    exact hc

/-- The third kernel over the reals runs to the end and leaves its arguments. -/
theorem frame3 : Cert.quiescent_Kernel3Ideal := fun m ρ _ =>
  (θ_run Cert.Kernel3Ideal.defs _ _).mono (fun r h => ⟨Cert.Kernel3Ideal.Back.args_kept m r h.1, h.2⟩) (Cert.Kernel3Ideal.Back.run_main m ρ)

set_option maxHeartbeats 2000000 in
/-- The third kernel's body is the same text over words as over the reals, -/
theorem same_body : Cert.Kernel3.defs₀ (F := Bits) = Cert.Kernel3Ideal.defs₀ (F := Bits) := by
  unfold Cert.Kernel3.defs₀ Cert.Kernel3Ideal.defs₀
  refine congrArg (Defs.onTc (nD := Cert.Kernel3.nD) (τ := Cert.Kernel3.τ) (sig := Cert.Kernel3.sig) (Λ := Cert.Kernel3.Λ₀)) ?_
  funext l a
  obtain ⟨_ | n, hn⟩ := l
  · obtain ⟨t, s⟩ := a
    rfl
  · exact absurd hn (by omega)

/-- and so are its launch -/
theorem same_defs : Cert.Kernel3.defs (F := Bits) = Cert.Kernel3Ideal.defs (F := Bits) :=
  congrArg (Pipeline.defs (Cert.Kernel3.pcfgs (F := Bits))) same_body

set_option maxHeartbeats 2000000 in
/-- and its host code. -/
theorem same_main : Cert.Kernel3.main (F := Bits) = Cert.Kernel3Ideal.main (F := Bits) := by
  unfold Cert.Kernel3.main Cert.Kernel3Ideal.main
  rfl

set_option maxHeartbeats 2000000 in
/-- So it runs to the end over words too, and leaves its arguments. -/
theorem words3 : Cert.quiescent_Kernel3 := by
  intro m ρ _
  have h : θ_run (Cert.Kernel3Ideal.defs (F := Bits)) (onTc (τ := Cert.Kernel3Ideal.τ) (Cert.Kernel3Ideal.main (F := Bits))) ⟨m, fun _ => 0, ρ⟩ _ :=
    (θ_run Cert.Kernel3Ideal.defs _ _).mono (fun r h => And.intro (Cert.Kernel3Ideal.Back.args_kept (F := Bits) m r h.1) h.2)
      (Cert.Kernel3Ideal.Back.run_main (F := Bits) m ρ)
  rw [same_defs, same_main]
  exact h

/-- The third reference runs to the end and leaves its arguments. -/
theorem plain3 : Cert.quiescent_Reference3Ideal := fun m ρ _ =>
  (θ_run Cert.Reference3Ideal.defs _ _).mono
    (fun r h => ⟨fun c => (h c).2.2, sem_eq_zero_of_no_sems (by decide) r.2⟩) (Cert.Reference3Ideal.Value.run m ρ)

theorem algebraic3 : Cert.algebraic_Kernel3Ideal_Reference3Ideal := by
  intro m ρ m' ρ' _ hs
  have E (c) : Cert.Reference3Ideal.Back.args m' c = Cert.Kernel3Ideal.Back.args m c := by
    obtain ⟨h0, h1, h2, h3, h4, h5⟩ := hs c
    unfold Cert.Reference3Ideal.Back.args Cert.Kernel3Ideal.Back.args
    congr 1
    · exact funext fun r => funext fun k => congrFun h0 _
    · exact funext fun k => funext fun j => congrFun h1 _
    · exact funext fun j => funext fun d => congrFun h2 _
    · exact funext fun d => congrFun h3 _
    · exact funext fun d => congrFun h4 _
    · exact funext fun r => funext fun d => congrFun h5 _
  let A (c : Dev Cert.Kernel3Ideal.nD) : Cert.Back.Args := Cert.Kernel3Ideal.Back.args m c
  refine ⟨fun c i => (A c).dw1 (i 1) (Cert.Back.col (i 0) (i 2)), fun c i => (A c).dw2 (Cert.Back.col (i 0) (i 1)) (i 2), ?_, ?_⟩
  · refine (θ_run _ _ _).mono (fun r h c => ?_) (Cert.Kernel3Ideal.Back.run_main m ρ)
    exact ⟨Cert.Kernel3Ideal.Back.out_g1 m c r h.1, Cert.Kernel3Ideal.Back.out_g2 m c r h.1, Cert.Kernel3Ideal.Back.args_kept m r h.1 c⟩
  · refine (θ_run _ _ _).mono (fun r h c => ?_) (Cert.Reference3Ideal.Back.run m' ρ')
    have hc := h c
    rw [E c] at hc
    exact hc

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite.Gen.facts,
    fun m ρ _ => Cert.Kernel.Words.frame m ρ, frame, fun m ρ _ => frame m ρ trivial, plain, fun m ρ _ => plain m ρ trivial,
    fun m ρ _ => Cert.Kernel2.Gen.frame m ρ, fun m ρ _ => Cert.Kernel2Ideal.Gen.frame m ρ, plain2, words3, frame3, plain3,
    IdealRules.named_const.statement Cert.KernelIdeal.κ "mask" .f32 0xFF7FFFFF#32 ⊥ rfl, algebraic, trivial, algebraic2, trivial, algebraic3⟩

end Cert.Proof
